-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x96x224x224 : Shape := ⟨4, ![8, 96, 224, 224]⟩
abbrev S_ : Shape := ⟨0, ![]⟩

class Facts : Prop where
  bcast_S_S8x96x224x224 : S_.BroadcastsInDim S8x96x224x224 (![] : Fin 0 → Fin S8x96x224x224.rank)

variable [Facts]

def fn {F : FTy → Type} [FloatOps F] (main_arg0 : FVec F S8x96x224x224 .f32) (main_arg1 : FVec F S8x96x224x224 .f32) : IVec S8x96x224x224 1 × IVec S8x96x224x224 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_v3 : FVec F S8x96x224x224 .f32 := Host.absf main_arg1
  let main_cst_0 : FVec F S_ .f32 := constant S_ .f32 0x7F800000#32
  let main_v4 : FVec F S8x96x224x224 .f32 := broadcastInDim S8x96x224x224 ![] bcast_S_S8x96x224x224 main_cst_0
  let main_v5 : IVec S8x96x224x224 1 := cmpf .olt main_v3 main_v4
  (main_v2, main_v5)
-- ==== Kernel.lean ====
abbrev S8x96x224x224 : Shape := ⟨4, ![8, 96, 224, 224]⟩
abbrev S8x4x24x224x224 : Shape := ⟨5, ![8, 4, 24, 224, 224]⟩
abbrev S8x1x1 : Shape := ⟨3, ![8, 1, 1]⟩
abbrev S1x1x12x224x224 : Shape := ⟨5, ![1, 1, 12, 224, 224]⟩
abbrev S1x1x1 : Shape := ⟨3, ![1, 1, 1]⟩
abbrev S8x224 : Shape := ⟨2, ![8, 224]⟩
abbrev S12x224x224 : Shape := ⟨3, ![12, 224, 224]⟩
abbrev S336x8x224 : Shape := ⟨3, ![336, 8, 224]⟩
abbrev S1x8x224 : Shape := ⟨3, ![1, 8, 224]⟩
abbrev S1 : Shape := ⟨1, ![1]⟩
abbrev S_ : Shape := ⟨0, ![]⟩

abbrev nBuf : Space → Nat
  | .hbm => 9
  | .vmem => 20
  | .smem => 2
  | _ => 0

abbrev bufTy : (tb : Table) → Fin (tcTables nBuf tb) → BufTy
  | .hbm, ⟨0, _⟩ => ⟨S8x96x224x224, .f32⟩
  | .hbm, ⟨1, _⟩ => ⟨S8x96x224x224, .f32⟩
  | .hbm, ⟨2, _⟩ => ⟨S8x4x24x224x224, .f32⟩
  | .hbm, ⟨3, _⟩ => ⟨S8x4x24x224x224, .f32⟩
  | .hbm, ⟨4, _⟩ => ⟨S8x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x12x224x224, .f32⟩
  | .local _ .vmem, ⟨1, _⟩ => ⟨S1x1x12x224x224, .f32⟩
  | .local _ .vmem, ⟨2, _⟩ => ⟨S1x1x12x224x224, .f32⟩
  | .local _ .vmem, ⟨3, _⟩ => ⟨S1x1x12x224x224, .f32⟩
  | .local _ .vmem, ⟨4, _⟩ => ⟨S1x1x12x224x224, .f32⟩
  | .local _ .vmem, ⟨5, _⟩ => ⟨S1x1x12x224x224, .f32⟩
  | .local _ .vmem, ⟨6, _⟩ => ⟨S1x1x12x224x224, .f32⟩
  | .local _ .vmem, ⟨7, _⟩ => ⟨S1x1x12x224x224, .f32⟩
  | .local _ .vmem, ⟨8, _⟩ => ⟨S1x1x12x224x224, .f32⟩
  | .local _ .vmem, ⟨9, _⟩ => ⟨S1x1x12x224x224, .f32⟩
  | .local _ .vmem, ⟨10, _⟩ => ⟨S1x1x12x224x224, .f32⟩
  | .local _ .vmem, ⟨11, _⟩ => ⟨S1x1x12x224x224, .f32⟩
  | .local _ .vmem, ⟨12, _⟩ => ⟨S1x1x12x224x224, .f32⟩
  | .local _ .vmem, ⟨13, _⟩ => ⟨S1x1x12x224x224, .f32⟩
  | .local _ .vmem, ⟨14, _⟩ => ⟨S1x1x12x224x224, .f32⟩
  | .local _ .vmem, ⟨15, _⟩ => ⟨S1x1x12x224x224, .f32⟩
  | .local _ .vmem, ⟨16, _⟩ => ⟨S8x224, .f32⟩
  | .local _ .vmem, ⟨17, _⟩ => ⟨S8x224, .f32⟩
  | .local _ .vmem, ⟨18, _⟩ => ⟨S8x224, .f32⟩
  | .local _ .vmem, ⟨19, _⟩ => ⟨S8x224, .f32⟩
  | .local _ .smem, ⟨0, _⟩ => ⟨S1x1x1, .f32⟩
  | .local _ .smem, ⟨1, _⟩ => ⟨S1x1x1, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg8_0 : Ref sig .tc := ⟨.smem, 0, rfl⟩
abbrev cc0_stg8_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v155 : BitVec 1 := Scalar.cmpi .eq arg1 c1_i32
  let v156 : BitVec 32 := Scalar.extui v155
  let c0_i32_119 : BitVec 32 := 0#32
  let v157 : BitVec 1 := Scalar.cmpi .ne v156 c0_i32_119
  v157

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x12x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x12x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x12x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x12x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x12x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x12x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x12x224x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x12x224x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .smem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x96x224x224 : Shape := ⟨4, ![8, 96, 224, 224]⟩
abbrev S8x4816896 : Shape := ⟨2, ![8, 4816896]⟩
abbrev S_ : Shape := ⟨0, ![]⟩
abbrev S8 : Shape := ⟨1, ![8]⟩
abbrev S8x1 : Shape := ⟨2, ![8, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8x96x224x224, .f32⟩
  | .hbm, ⟨2, _⟩ => ⟨S8x4816896, .f32⟩
  | .hbm, ⟨3, _⟩ => ⟨S8x4816896, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8x1, .f32⟩
  | .hbm, ⟨10, _⟩ => ⟨S8x4816896, .f32⟩
  | .hbm, ⟨11, _⟩ => ⟨S8x4816896, .f32⟩
  | .hbm, ⟨12, _⟩ => ⟨S8x4816896, .f32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S8x1, .f32⟩
  | .hbm, ⟨17, _⟩ => ⟨S8x4816896, .f32⟩
  | .hbm, ⟨18, _⟩ => ⟨S8x4816896, .f32⟩
  | .hbm, ⟨19, _⟩ => ⟨S8x4816896, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S8x1, .i32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩

abbrev nD : Nat := 1
abbrev τ : Topo := Topo.v7x

variable {F : FTy → Type} [FloatOps F]
-- ==== Proof.Finite.lean ====
/-
  The precondition: both arguments' entries are smaller in size than infinity, which over the extended reals says that
  each is a real number.
-/
module

public import proofs.«01_k».proof.Defs
public import Idealize.ShloMosaic.PureOps.Ideal.Laws

@[expose] public section

noncomputable section

open Idealize.ShloMosaic Idealize.SL.Sem

namespace Cert.Finite

open Cert.Pre_finite

instance facts : Cert.Pre_finite.Facts where
  bcast_S_S8x96x224x224 := by decide

/-- Infinity's word is the extended reals' top. -/
theorem ofBits_inf : Ideal.ofBits .f32 0x7F800000#32 = ⊤ := by simp [Ideal.ofBits, Ideal.ieee]

/-- An extended real of size below infinity is a real. -/
theorem real_of_abs_lt (y : EReal) (h : max y (-y) < ⊤) : y = (y.toReal : EReal) := by
  refine (EReal.coe_toReal (fun e => ?_) (fun e => ?_)).symm
  · rw [e] at h; simp at h
  · rw [e] at h; simp at h

/-- One array's half of the precondition. -/
theorem reals_of_compare (x : FVec Ideal S8x96x224x224 .f32) (hb : S_.BroadcastsInDim S8x96x224x224 (![] : Fin 0 → Fin S8x96x224x224.rank))
    (h : cmpf .olt (Host.absf x) (broadcastInDim S8x96x224x224 ![] hb (constant S_ .f32 0x7F800000#32)) = fun _ => 1#1) (i : S8x96x224x224.Idx) :
    x i = ((x i : EReal).toReal : EReal) := by
  have hi := congrFun h i
  have hc : FloatOps.cmpf (F := Ideal) (φ := .f32) .olt (max (x i : EReal) (-(x i : EReal))) (Ideal.ofBits .f32 0x7F800000#32) = 1#1 := hi
  rw [ofBits_inf] at hc
  refine real_of_abs_lt _ ?_
  simp only [Ideal.cmpf_def, Ideal.cmp] at hc
  by_contra hn
  simp [hn] at hc

/-- Both halves. -/
theorem reals (x t : FVec Ideal S8x96x224x224 .f32)
    (h : (Cert.Pre_finite.fn (F := Ideal) x t).1 = (fun _ => 1#1) ∧ (Cert.Pre_finite.fn (F := Ideal) x t).2 = (fun _ => 1#1)) :
    (∀ i, x i = ((x i : EReal).toReal : EReal)) ∧ ∀ i, t i = ((t i : EReal).toReal : EReal) :=
  ⟨reals_of_compare x _ h.1, reals_of_compare t _ h.2⟩

end Cert.Finite

end
-- ==== Proof.Steps.lean ====
/-
  What one grid point does to the four running statistics, as plain functions of the blocks it reads: `step` folds one
  block of logits and one of targets into the statistics, `four` does it for the four streams in order, `start` is the
  reset. The last section reads the run's found pieces back as these functions: the statistics after a point that
  resets (`sout_A`), after a point that continues (`sout_B`), and the loss the second kind of point writes (`out_B`).
-/
module

public import proofs.«01_k».proof.Defs
public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Value

open Cert.KernelIdeal Cert.KernelIdeal.Gen

variable {F : FTy → Type} [FloatOps F]

/-- The four statistics the kernel carries, one number of each per lane of an 8 by 224 tile: the running maximum of the
    logits, the running sum of their exponentials (relative to that maximum), the running sum of target times logit, and
    the running sum of the targets. -/
abbrev St (F : FTy → Type) : Type := FVec F S8x224 .f32 × FVec F S8x224 .f32 × FVec F S8x224 .f32 × FVec F S8x224 .f32

/-- One block of logits `x` and one of targets `t` folded into the statistics. -/
def step (x t : Vec F S1x1x12x224x224 .f32) (st : St F) : St F :=
  (k0_pay10 x st.1, k0_pay9 x st.1 st.2.1, k0_pay12 st.2.2.1 (k0_pay11 x t), k0_pay13 (k0_pay7 t) st.2.2.2)

/-- The statistics before any block: the maximum at minus infinity, the three sums at zero. -/
def start : St F := (k0_pay2, k0_pay3, k0_pay4, k0_pay5)

/-- The four streams' blocks of one grid point, folded in order. -/
def four (x0 x1 x2 x3 t0 t1 t2 t3 : Vec F S1x1x12x224x224 .f32) (st : St F) : St F :=
  step x3 t3 (step x2 t2 (step x1 t1 (step x0 t0 st)))

/-- The loss from the statistics, as the one-element block the kernel writes. -/
def lossOf (st : St F) : Vec F S1x1x1 .f32 := fun _ => k0_pay1 st.1 st.2.1 st.2.2.2 st.2.2.1

theorem zero2 : (![0, 0] : Fin 2 → Nat) = fun _ => 0 := funext fun a => by fin_cases a <;> rfl
theorem zero3 : (![0, 0, 0] : Fin 3 → Nat) = fun _ => 0 := funext fun a => by fin_cases a <;> rfl
theorem zero5 : (![0, 0, 0, 0, 0] : Fin 5 → Nat) = fun _ => 0 := funext fun a => by fin_cases a <;> rfl

/-- A load of a whole buffer whose LAST store was a store of the whole buffer reads that store's payload. -/
theorem readCov_last {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The same for the 8 by 224 buffers the statistics live in, in the spelling the run leaves. -/
theorem readCov_tile {κ : Kind} {sp : Space} (v : View sig κ sp S8x224 .f32)
    (inb : ∀ a, (![0, 0] : Fin 2 → Nat) a + (![8, 224] : Fin 2 → Nat) a ≤ S8x224.size a) (w : S8x224.Idx → Elt F .f32)
    (L : List (View.Piece (Elt F) S8x224 .f32)) :
    v.readCov ((⟨Rect.unit (s := S8x224) ![0, 0] ![8, 224] inb, w⟩ : View.Piece (Elt F) S8x224 .f32) :: L)
      (Rect.unit (s := S8x224) ![0, 0] ![8, 224] inb).toLoadRect = w :=
  readCov_last v zero2 inb w L

section Pieces

variable (c : Dev nD) (i : grid0.Coords)
  (a2 : Memref sig .tc .vmem S1x1x12x224x224 .f32) (h2 : a2.IsWhole) (a3 : Memref sig .tc .vmem S1x1x12x224x224 .f32) (h3 : a3.IsWhole)
  (a4 : Memref sig .tc .vmem S1x1x12x224x224 .f32) (h4 : a4.IsWhole) (a5 : Memref sig .tc .vmem S1x1x12x224x224 .f32) (h5 : a5.IsWhole)
  (a6 : Memref sig .tc .vmem S1x1x12x224x224 .f32) (h6 : a6.IsWhole) (a7 : Memref sig .tc .vmem S1x1x12x224x224 .f32) (h7 : a7.IsWhole)
  (a8 : Memref sig .tc .vmem S1x1x12x224x224 .f32) (h8 : a8.IsWhole) (a9 : Memref sig .tc .vmem S1x1x12x224x224 .f32) (h9 : a9.IsWhole)
  (a10 : Memref sig .tc .smem S1x1x1 .f32) (h10 : a10.IsWhole)
  (a11 : Memref sig .tc .vmem S8x224 .f32) (h11 : a11.IsWhole) (a12 : Memref sig .tc .vmem S8x224 .f32) (h12 : a12.IsWhole)
  (a13 : Memref sig .tc .vmem S8x224 .f32) (h13 : a13.IsWhole) (a14 : Memref sig .tc .vmem S8x224 .f32) (h14 : a14.IsWhole)
  (x0 x1 x2 x3 t0 t1 t2 t3 : Vec F S1x1x12x224x224 .f32)

/-- After a point that resets: the running maximum. -/
theorem sout_A_0 (hc0 : cond0_0 i) (hc1 : ¬cond0_1 i) :
    sout0_A_0 c i a2 h2 a3 h3 a4 h4 a5 h5 a6 h6 a7 h7 a8 h8 a9 h9 a10 h10 a11 h11 a12 h12 a13 h13 a14 h14 hc0 hc1 x0 x1 x2 x3 t0 t1 t2 t3
      = (four x0 x1 x2 x3 t0 t1 t2 t3 start).1 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 t0 t1 t2 t3)]
  unfold kernelRun0_A
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread,
    View.ld_unit_zero (S := S8x224) zero2, View.ld_unit_zero (S := S1x1x12x224x224) zero5]
  rfl

/-- After a point that resets: the running sum of exponentials. -/
theorem sout_A_1 (hc0 : cond0_0 i) (hc1 : ¬cond0_1 i) :
    sout0_A_1 c i a2 h2 a3 h3 a4 h4 a5 h5 a6 h6 a7 h7 a8 h8 a9 h9 a10 h10 a11 h11 a12 h12 a13 h13 a14 h14 hc0 hc1 x0 x1 x2 x3 t0 t1 t2 t3
      = (four x0 x1 x2 x3 t0 t1 t2 t3 start).2.1 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 hc1 x0 x1 x2 x3 t0 t1 t2 t3)]
  unfold kernelRun0_A
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread,
    View.ld_unit_zero (S := S8x224) zero2, View.ld_unit_zero (S := S1x1x12x224x224) zero5]
  rfl

/-- After a point that resets: the running sum of target times logit. -/
theorem sout_A_2 (hc0 : cond0_0 i) (hc1 : ¬cond0_1 i) :
    sout0_A_2 c i a2 h2 a3 h3 a4 h4 a5 h5 a6 h6 a7 h7 a8 h8 a9 h9 a10 h10 a11 h11 a12 h12 a13 h13 a14 h14 hc0 hc1 x0 x1 x2 x3 t0 t1 t2 t3
      = (four x0 x1 x2 x3 t0 t1 t2 t3 start).2.2.1 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 hc0 hc1 x0 x1 x2 x3 t0 t1 t2 t3)]
  unfold kernelRun0_A
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread,
    View.ld_unit_zero (S := S8x224) zero2, View.ld_unit_zero (S := S1x1x12x224x224) zero5]
  rfl

/-- After a point that resets: the running sum of targets. -/
theorem sout_A_3 (hc0 : cond0_0 i) (hc1 : ¬cond0_1 i) :
    sout0_A_3 c i a2 h2 a3 h3 a4 h4 a5 h5 a6 h6 a7 h7 a8 h8 a9 h9 a10 h10 a11 h11 a12 h12 a13 h13 a14 h14 hc0 hc1 x0 x1 x2 x3 t0 t1 t2 t3
      = (four x0 x1 x2 x3 t0 t1 t2 t3 start).2.2.2 := by
  unfold sout0_A_3
  rw [View.read_writes_eq_canon _ _ _ (scover0_A_3 c i a2 h2 a3 h3 a4 h4 a5 h5 a6 h6 a7 h7 a8 h8 a9 h9 a10 h10 a11 h11 a12 h12 a13 h13 a14 h14 hc0 hc1 x0 x1 x2 x3 t0 t1 t2 t3)]
  unfold kernelRun0_A
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread,
    View.ld_unit_zero (S := S8x224) zero2, View.ld_unit_zero (S := S1x1x12x224x224) zero5]
  rfl

variable (s0 s1 s2 s3 : Vec F S8x224 .f32)

/-- After a point that continues from statistics `s0 s1 s2 s3`: the running maximum. -/
theorem sout_B_0 (hc0 : ¬cond0_0 i) (hc1 : cond0_1 i) :
    sout0_B_0 c i a2 h2 a3 h3 a4 h4 a5 h5 a6 h6 a7 h7 a8 h8 a9 h9 a10 h10 a11 h11 a12 h12 a13 h13 a14 h14 hc0 hc1 x0 x1 x2 x3 t0 t1 t2 t3 s0 s1 s2 s3
      = (four x0 x1 x2 x3 t0 t1 t2 t3 (s0, s1, s2, s3)).1 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 hc0 hc1 x0 x1 x2 x3 t0 t1 t2 t3 s0 s1 s2 s3)]
  unfold kernelRun0_B
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread, h11.read_unread, h12.read_unread, h13.read_unread, h14.read_unread,
    View.ld_unit_zero (S := S8x224) zero2, View.ld_unit_zero (S := S1x1x12x224x224) zero5]
  rfl

/-- After a point that continues from statistics `s0 s1 s2 s3`: the running sum of exponentials. -/
theorem sout_B_1 (hc0 : ¬cond0_0 i) (hc1 : cond0_1 i) :
    sout0_B_1 c i a2 h2 a3 h3 a4 h4 a5 h5 a6 h6 a7 h7 a8 h8 a9 h9 a10 h10 a11 h11 a12 h12 a13 h13 a14 h14 hc0 hc1 x0 x1 x2 x3 t0 t1 t2 t3 s0 s1 s2 s3
      = (four x0 x1 x2 x3 t0 t1 t2 t3 (s0, s1, s2, s3)).2.1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 hc1 x0 x1 x2 x3 t0 t1 t2 t3 s0 s1 s2 s3)]
  unfold kernelRun0_B
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread, h11.read_unread, h12.read_unread, h13.read_unread, h14.read_unread,
    View.ld_unit_zero (S := S8x224) zero2, View.ld_unit_zero (S := S1x1x12x224x224) zero5]
  rfl

/-- After a point that continues from statistics `s0 s1 s2 s3`: the running sum of target times logit. -/
theorem sout_B_2 (hc0 : ¬cond0_0 i) (hc1 : cond0_1 i) :
    sout0_B_2 c i a2 h2 a3 h3 a4 h4 a5 h5 a6 h6 a7 h7 a8 h8 a9 h9 a10 h10 a11 h11 a12 h12 a13 h13 a14 h14 hc0 hc1 x0 x1 x2 x3 t0 t1 t2 t3 s0 s1 s2 s3
      = (four x0 x1 x2 x3 t0 t1 t2 t3 (s0, s1, s2, s3)).2.2.1 := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 hc0 hc1 x0 x1 x2 x3 t0 t1 t2 t3 s0 s1 s2 s3)]
  unfold kernelRun0_B
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread, h11.read_unread, h12.read_unread, h13.read_unread, h14.read_unread,
    View.ld_unit_zero (S := S8x224) zero2, View.ld_unit_zero (S := S1x1x12x224x224) zero5]
  rfl

/-- After a point that continues from statistics `s0 s1 s2 s3`: the running sum of targets. -/
theorem sout_B_3 (hc0 : ¬cond0_0 i) (hc1 : cond0_1 i) :
    sout0_B_3 c i a2 h2 a3 h3 a4 h4 a5 h5 a6 h6 a7 h7 a8 h8 a9 h9 a10 h10 a11 h11 a12 h12 a13 h13 a14 h14 hc0 hc1 x0 x1 x2 x3 t0 t1 t2 t3 s0 s1 s2 s3
      = (four x0 x1 x2 x3 t0 t1 t2 t3 (s0, s1, s2, s3)).2.2.2 := by
  unfold sout0_B_3
  rw [View.read_writes_eq_canon _ _ _ (scover0_B_3 c i a2 h2 a3 h3 a4 h4 a5 h5 a6 h6 a7 h7 a8 h8 a9 h9 a10 h10 a11 h11 a12 h12 a13 h13 a14 h14 hc0 hc1 x0 x1 x2 x3 t0 t1 t2 t3 s0 s1 s2 s3)]
  unfold kernelRun0_B
  dsimp only
  sl_unfold_words
  rw [View.canon_cons_unit_zero (S := S8x224) zero2]
  simp only [readCov_tile, View.readAt_eq_ld, h2.read_unread, h3.read_unread, h4.read_unread, h5.read_unread, h6.read_unread, h7.read_unread, h8.read_unread, h9.read_unread, h11.read_unread, h12.read_unread, h13.read_unread, h14.read_unread,
    View.ld_unit_zero (S := S8x224) zero2, View.ld_unit_zero (S := S1x1x12x224x224) zero5]
  rfl

/-- The loss a point that continues writes. -/
theorem out_B (hc0 : ¬cond0_0 i) (hc1 : cond0_1 i) :
    out0_B_8 c i a2 h2 a3 h3 a4 h4 a5 h5 a6 h6 a7 h7 a8 h8 a9 h9 a10 h10 a11 h11 a12 h12 a13 h13 a14 h14 hc0 hc1 x0 x1 x2 x3 t0 t1 t2 t3 s0 s1 s2 s3
      = lossOf (four x0 x1 x2 x3 t0 t1 t2 t3 (s0, s1, s2, s3)) := by
  unfold out0_B_8
  rw [View.read_writes_eq_canon _ _ _ (cover0_B_8 c i a2 h2 a3 h3 a4 h4 a5 h5 a6 h6 a7 h7 a8 h8 a9 h9 a10 h10 a11 h11 a12 h12 a13 h13 a14 h14 hc0 hc1 x0 x1 x2 x3 t0 t1 t2 t3 s0 s1 s2 s3)]
  unfold kernelRun0_B
  dsimp only
  sl_unfold_words
  rw [View.canon_cons_unit_zero (S := S1x1x1) zero3]
  simp only [readCov_tile, View.readAt_eq_ld, h2.read_unread, h3.read_unread, h4.read_unread, h5.read_unread, h6.read_unread, h7.read_unread, h8.read_unread, h9.read_unread, h11.read_unread, h12.read_unread, h13.read_unread, h14.read_unread,
    View.ld_unit_zero (S := S8x224) zero2, View.ld_unit_zero (S := S1x1x12x224x224) zero5]
  rfl

end Pieces

end Cert.KernelIdeal.Value

end
-- ==== Proof.Points.lean ====
/-
  What the kernel's output array holds after the run, as plain functions of the blocks the grid points read: grid point
  `2b` starts the statistics of batch row `b` and folds the first half of its blocks, grid point `2b + 1` folds the
  second half and writes the row's loss into entry `b`.
-/
module

public import proofs.«01_k».proof.Proof.Steps

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ)

/-- The blocks grid point `t` reads, folded into the statistics `st`. -/
def point (c : Dev nD) (t : Fin cfg0.N) (st : St F) : St F :=
  four (iblk m c 0 t) (iblk m c 1 t) (iblk m c 2 t) (iblk m c 3 t) (iblk m c 4 t) (iblk m c 5 t) (iblk m c 6 t) (iblk m c 7 t) st

/-- After an even grid point the carried statistics are the point's blocks folded into the reset. -/
theorem stats_even (c : Dev nD) (t : Fin cfg0.N) (h0 : t.val % 2 = 0) :
    (outsAt0 m c t.val t.isLt).2 = point m c t start := by
  have h1 : ¬t.val % 2 = 1 := by omega
  rw [outsAt0_A m c t h0 h1, sout_A_0, sout_A_1, sout_A_2, sout_A_3]
  rfl

/-- After an odd grid point the output block holds the loss of the point's blocks folded into what the point before left. -/
theorem loss_odd (c : Dev nD) (t s : Fin cfg0.N) (h : t.val = s.val + 1) (h1 : s.val % 2 = 0) :
    (outsAt0 m c t.val t.isLt).1 = lossOf (point m c t (point m c s start)) := by
  have h0 : ¬t.val % 2 = 0 := by omega
  have h2 : t.val % 2 = 1 := by omega
  rw [outsAt0_B m c t h0 h2, out_B, ← stats_even m c s h1]
  obtain ⟨n, hn⟩ := t
  obtain rfl : n = s.val + 1 := h
  rfl

/-- The even grid point of batch row `b`. -/
def ptA (b : Fin 8) : Fin cfg0.N := ⟨2 * b.val, by rw [show cfg0.N = 16 from N_0]; omega⟩
/-- The odd grid point of batch row `b`. -/
def ptB (b : Fin 8) : Fin cfg0.N := ⟨2 * b.val + 1, by rw [show cfg0.N = 16 from N_0]; omega⟩

/-- The statistics of batch row `b` after both of its grid points. -/
def rowStats (c : Dev nD) (b : Fin 8) : St F := point m c (ptB b) (point m c (ptA b) start)

/-- The loss of batch row `b`, as the number the kernel writes. -/
def rowLoss (c : Dev nD) (b : Fin 8) : F .f32 :=
  k0_pay1 (rowStats m c b).1 (rowStats m c b).2.1 (rowStats m c b).2.2.2 (rowStats m c b).2.2.1

/-- The output array: entry `b` is the loss of batch row `b`. -/
def losses (c : Dev nD) : Buf (Elt F) ((c : Thread nD τ).loc main_v2) := fun i => rowLoss m c ⟨(i 0).val, (i 0).isLt⟩

/-- The output window's block at a point is entry `t / 2`. -/
theorem index8 : ∀ t : Fin cfg0.N, win0_8.index t 0 = t.val / 2 ∧ win0_8.index t 1 = 0 ∧ win0_8.index t 2 = 0 :=
  (by decide +kernel : ∀ t : Fin grid0.N, win0_8.index t 0 = t.val / 2 ∧ win0_8.index t 1 = 0 ∧ win0_8.index t 2 = 0)

/-- Every write-back writes its entry of `losses`. -/
theorem flushed_eq (c : Dev nD) (t : Fin cfg0.N) (hf : (cfg0.win 8).flush t = true) :
    (dats m 0 c).flushed 8 t = ((cfg0.win 8).blk t).view.read (Elt F) (losses m c) := by
  have hN : cfg0.N = 16 := N_0
  have h1 : t.val % 2 = 1 := (flush0_8 t).mp hf
  have hlt : t.val < 16 := lt_of_lt_of_eq t.isLt hN
  obtain ⟨b, rfl⟩ : ∃ b : Fin 8, t = ptB b := ⟨⟨t.val / 2, by omega⟩, Fin.ext (by show t.val = 2 * (t.val / 2) + 1; omega)⟩
  show (cfg0.win 8).cut (grid0.coords (ptB b)) ((dats m 0 c).after 8 (ptB b)) = _
  rw [after0_8, loss_odd m c (ptB b) (ptA b) rfl (by show 2 * b.val % 2 = 0; omega)]
  funext j
  rw [View.read_apply]
  show rowLoss m c b = rowLoss m c _
  congr 1
  apply Fin.ext
  show b.val = win0_8.index (ptB b) 0 * 1 + 1 * (j 0).val
  have hj : (j 0).val < 1 := (j 0).isLt
  rw [(index8 (ptB b)).1]
  show b.val = (2 * b.val + 1) / 2 * 1 + 1 * (j 0).val
  omega

/-- The output array after the run. -/
theorem final_losses (c : Dev nD) : (dats m 0 c).arrAt 8 cfg0.N = losses m c :=
  (dats m 0 c).arrAt_eq_of_cover 8 (losses m c) (flushed_eq m c) fun i => by
    have h0 : (i 0 : Nat) < 8 := (i 0).isLt
    have h1' : (i 1 : Nat) < 1 := (i 1).isLt
    have h2' : (i 2 : Nat) < 1 := (i 2).isLt
    refine ⟨ptB ⟨(i 0).val, h0⟩, (flush0_8 _).mpr (by show (2 * (i 0).val + 1) % 2 = 1; omega), ?_⟩
    show i ∈ ((View.whole main_v2).slice (win0_8.rect (ptB ⟨(i 0).val, h0⟩))).set
    rw [View.set_slice_whole, Rect.mem_set_unit]
    have hi := index8 (ptB ⟨(i 0).val, h0⟩)
    intro a
    match a with
    | ⟨0, _⟩ => show win0_8.index (ptB ⟨(i 0).val, h0⟩) 0 * 1 ≤ (i 0 : Nat) ∧ (i 0 : Nat) < win0_8.index (ptB ⟨(i 0).val, h0⟩) 0 * 1 + 1
                rw [hi.1]; show (2 * (i 0).val + 1) / 2 * 1 ≤ _ ∧ _ < (2 * (i 0).val + 1) / 2 * 1 + 1; omega
    | ⟨1, _⟩ => show win0_8.index (ptB ⟨(i 0).val, h0⟩) 1 * 1 ≤ (i 1 : Nat) ∧ (i 1 : Nat) < win0_8.index (ptB ⟨(i 0).val, h0⟩) 1 * 1 + 1
                rw [hi.2.1]; omega
    | ⟨2, _⟩ => show win0_8.index (ptB ⟨(i 0).val, h0⟩) 2 * 1 ≤ (i 2 : Nat) ∧ (i 2 : Nat) < win0_8.index (ptB ⟨(i 0).val, h0⟩) 2 * 1 + 1
                rw [hi.2.2]; omega

end Cert.KernelIdeal.Value

end
-- ==== Proof.Rows.lean ====
/-
  One batch row of an `8 × 96 × 224 × 224` array read as one long line: entry `n` of row `b` in row-major order.
-/
module

public import Idealize.ShloMosaic.Lib.ValueIdxCore

@[expose] public section

noncomputable section

open Idealize.ShloMosaic Idealize.ShloMosaic.ValueIdx

namespace Cert.Rows

/-- The index of entry `n` of batch row `b`: channel `n / 50176`, image row `n / 224 mod 224`, image column `n mod 224`. -/
def at4 (b : Fin 8) (n : ℕ) : (⟨4, ![8, 96, 224, 224]⟩ : Shape).Idx :=
  ix4 b ⟨n / 50176 % 96, Nat.mod_lt _ (by decide)⟩ ⟨n / 224 % 224, Nat.mod_lt _ (by decide)⟩ ⟨n % 224, Nat.mod_lt _ (by decide)⟩

/-- An index whose coordinates are those of entry `n` of row `b` is that entry's index. -/
theorem eq_at4 (b : Fin 8) (n : ℕ) (i : (⟨4, ![8, 96, 224, 224]⟩ : Shape).Idx) (h0 : (i 0).val = b.val)
    (h1 : (i 1).val = n / 50176 % 96) (h2 : (i 2).val = n / 224 % 224) (h3 : (i 3).val = n % 224) : i = at4 b n := by
  funext a
  apply Fin.ext
  match a with
  | ⟨0, _⟩ => exact h0
  | ⟨1, _⟩ => exact h1
  | ⟨2, _⟩ => exact h2
  | ⟨3, _⟩ => exact h3

end Cert.Rows

end
-- ==== Proof.Blocks.lean ====
/-
  What one block holds: the block stream `s` hands grid point `t` is 12 channels of batch row `t / 2`, channels
  `24 s + 12 (t mod 2)` onward, and the kernel's view of it as 336 tiles of 8 by 224 lanes is that stretch of the row
  in row-major order.
-/
module

public import proofs.«01_k».proof.Proof.Points
public import proofs.«01_k».proof.Proof.Rows
public import Idealize.ShloMosaic.Lib.Claim

@[expose] public section

noncomputable section

open Idealize.ShloMosaic Idealize.ShloMosaic.TcCoe Idealize.SL.Sem Idealize.ShloMosaic.ValueIdx Cert.Rows

namespace Cert.KernelIdeal.Value

open Cert.KernelIdeal Cert.KernelIdeal.Gen

variable {F : FTy → Type} [FloatOps F]
variable (m : (ℓ : Loc nD τ sig) → Buf (Elt F) ℓ)

/-- A block holding 12 channels of row `b` of `x`, the first one channel `ch`, seen as 336 tiles of 8 by 224: lane `(a, d)`
    of tile `k` is entry `50176 ch + 1792 k + 224 a + d` of the row. -/
theorem tiles_of_block (x : S8x96x224x224.Idx → F .f32) (blk : Vec F S1x1x12x224x224 .f32) (b : Fin 8) (ch : ℕ) (hch : ch + 12 ≤ 96)
    (hblk : ∀ (e : Fin 12) (r q : Fin 224), blk (ix5 (0 : Fin 1) (0 : Fin 1) e r q) = x (at4 b ((ch + e.val) * 50176 + r.val * 224 + q.val)))
    (k : Fin 336) (a : Fin 8) (d : Fin 224) :
    k0_pay6 blk (ix3 k a d) = x (at4 b (ch * 50176 + (k.val * 1792 + a.val * 224 + d.val))) := by
  have hk := k.isLt
  have ha := a.isLt
  have hd := d.isLt
  let n := k.val * 1792 + a.val * 224 + d.val
  have hn : n = k.val * 1792 + a.val * 224 + d.val := rfl
  have e1 : n / 50176 < 12 := by omega
  unfold k0_pay6
  rw [shapeCast_apply _ _ (ix3 k a d) (ix3 (⟨n / 50176, e1⟩ : Fin 12) (⟨n / 224 % 224, Nat.mod_lt _ (by decide)⟩ : Fin 224) (⟨n % 224, Nat.mod_lt _ (by decide)⟩ : Fin 224))
      (by rw [Shape.rowMajor_val_three, Shape.rowMajor_val_three]
          show (n / 50176 * 224 + n / 224 % 224) * 224 + n % 224 = (k.val * 8 + a.val) * 224 + d.val
          omega),
    shapeCast_apply _ _ _ (ix5 (0 : Fin 1) (0 : Fin 1) (⟨n / 50176, e1⟩ : Fin 12) (⟨n / 224 % 224, Nat.mod_lt _ (by decide)⟩ : Fin 224) (⟨n % 224, Nat.mod_lt _ (by decide)⟩ : Fin 224))
      (by rw [Shape.rowMajor_val_five, Shape.rowMajor_val_three]
          show (((0 * 1 + 0) * 12 + n / 50176) * 224 + n / 224 % 224) * 224 + n % 224 = (n / 50176 * 224 + n / 224 % 224) * 224 + n % 224
          omega), hblk]
  refine congrArg (fun N => x (at4 b N)) ?_
  show (ch + n / 50176) * 50176 + n / 224 % 224 * 224 + n % 224 = _
  omega

/-- The logits as the kernel's reshape lays them out, read at `(b, s, e, r, q)`: channel `24 s + e` of row `b`. -/
theorem reshaped (x : S8x96x224x224.Idx → F .f32) (i : S8x4x24x224x224.Idx) :
    shapeCast S8x4x24x224x224 x shapeCasts_S8x96x224x224_S8x4x24x224x224 i
      = x (at4 ⟨(i 0).val, (i 0).isLt⟩ (((i 1).val * 24 + (i 2).val) * 50176 + (i 3).val * 224 + (i 4).val)) := by
  have h0 : (i 0).val < 8 := (i 0).isLt
  have h1 : (i 1).val < 4 := (i 1).isLt
  have h2 : (i 2).val < 24 := (i 2).isLt
  have h3 : (i 3).val < 224 := (i 3).isLt
  have h4 : (i 4).val < 224 := (i 4).isLt
  apply shapeCast_apply
  rw [Shape.rowMajor_val_five, Shape.rowMajor_val_four]
  let N := ((i 1).val * 24 + (i 2).val) * 50176 + (i 3).val * 224 + (i 4).val
  have hN : N = ((i 1).val * 24 + (i 2).val) * 50176 + (i 3).val * 224 + (i 4).val := rfl
  show (((i 0).val * 96 + N / 50176 % 96) * 224 + N / 224 % 224) * 224 + N % 224
    = ((((i 0).val * 4 + (i 1).val) * 24 + (i 2).val) * 224 + (i 3).val) * 224 + (i 4).val
  omega

theorem V_logits (c : Dev nD) : V m c main_v0 = shapeCast S8x4x24x224x224 (m ((c.tc : Thread nD τ).loc main_arg0)) shapeCasts_S8x96x224x224_S8x4x24x224x224 := by
  entry_read
  rfl

theorem V_targets (c : Dev nD) : V m c main_v1 = shapeCast S8x4x24x224x224 (m ((c.tc : Thread nD τ).loc main_arg1)) shapeCasts_S8x96x224x224_S8x4x24x224x224 := by
  entry_read
  rfl

/-- The channel the block of stream `s` starts at, at grid point `t`. -/
def chan (s t : ℕ) : ℕ := s * 24 + t % 2 * 12

theorem index0 : ∀ t : Fin cfg0.N, win0_0.index t 0 = t.val / 2 ∧ win0_0.index t 1 = 0 ∧ win0_0.index t 2 = t.val % 2 ∧ win0_0.index t 3 = 0 ∧ win0_0.index t 4 = 0 :=
  (by decide +kernel : ∀ t : Fin grid0.N, win0_0.index t 0 = t.val / 2 ∧ win0_0.index t 1 = 0 ∧ win0_0.index t 2 = t.val % 2 ∧ win0_0.index t 3 = 0 ∧ win0_0.index t 4 = 0)

/-- The tiles of window 0's block at grid point `t` of batch row `b`. -/
theorem tiles0 (c : Dev nD) (t : Fin cfg0.N) (b : Fin 8) (hb : t.val / 2 = b.val) (k : Fin 336) (a : Fin 8) (d : Fin 224) :
    k0_pay6 (iblk m c 0 t) (ix3 k a d) = m ((c.tc : Thread nD τ).loc main_arg0) (at4 b (chan 0 t.val * 50176 + (k.val * 1792 + a.val * 224 + d.val))) := by
  refine tiles_of_block (m ((c.tc : Thread nD τ).loc main_arg0)) (iblk m c 0 t) b (chan 0 t.val) (by unfold chan; omega) ?_ k a d
  intro e r q
  have hi := index0 t
  unfold iblk
  rw [View.read_apply]
  show V m c main_v0 _ = _
  rw [V_logits, reshaped]
  set_option maxRecDepth 4000 in
  refine congrArg₂ (fun B N => m ((c.tc : Thread nD τ).loc main_arg0) (at4 B N)) (Fin.ext ?_) ?_
  · show win0_0.index t 0 * 1 + 1 * 0 = b.val
    rw [hi.1]; omega
  · show ((win0_0.index t 1 * 1 + 1 * 0) * 24 + (win0_0.index t 2 * 12 + 1 * e.val)) * 50176 + (win0_0.index t 3 * 224 + 1 * r.val) * 224 + (win0_0.index t 4 * 224 + 1 * q.val) = _
    rw [hi.2.1, hi.2.2.1, hi.2.2.2.1, hi.2.2.2.2]
    unfold chan
    omega

theorem index1 : ∀ t : Fin cfg0.N, win0_1.index t 0 = t.val / 2 ∧ win0_1.index t 1 = 1 ∧ win0_1.index t 2 = t.val % 2 ∧ win0_1.index t 3 = 0 ∧ win0_1.index t 4 = 0 :=
  (by decide +kernel : ∀ t : Fin grid0.N, win0_1.index t 0 = t.val / 2 ∧ win0_1.index t 1 = 1 ∧ win0_1.index t 2 = t.val % 2 ∧ win0_1.index t 3 = 0 ∧ win0_1.index t 4 = 0)

/-- The tiles of window 1's block at grid point `t` of batch row `b`. -/
theorem tiles1 (c : Dev nD) (t : Fin cfg0.N) (b : Fin 8) (hb : t.val / 2 = b.val) (k : Fin 336) (a : Fin 8) (d : Fin 224) :
    k0_pay6 (iblk m c 1 t) (ix3 k a d) = m ((c.tc : Thread nD τ).loc main_arg0) (at4 b (chan 1 t.val * 50176 + (k.val * 1792 + a.val * 224 + d.val))) := by
  refine tiles_of_block (m ((c.tc : Thread nD τ).loc main_arg0)) (iblk m c 1 t) b (chan 1 t.val) (by unfold chan; omega) ?_ k a d
  intro e r q
  have hi := index1 t
  unfold iblk
  rw [View.read_apply]
  show V m c main_v0 _ = _
  rw [V_logits, reshaped]
  set_option maxRecDepth 4000 in
  refine congrArg₂ (fun B N => m ((c.tc : Thread nD τ).loc main_arg0) (at4 B N)) (Fin.ext ?_) ?_
  · show win0_1.index t 0 * 1 + 1 * 0 = b.val
    rw [hi.1]; omega
  · show ((win0_1.index t 1 * 1 + 1 * 0) * 24 + (win0_1.index t 2 * 12 + 1 * e.val)) * 50176 + (win0_1.index t 3 * 224 + 1 * r.val) * 224 + (win0_1.index t 4 * 224 + 1 * q.val) = _
    rw [hi.2.1, hi.2.2.1, hi.2.2.2.1, hi.2.2.2.2]
    unfold chan
    omega

theorem index2 : ∀ t : Fin cfg0.N, win0_2.index t 0 = t.val / 2 ∧ win0_2.index t 1 = 2 ∧ win0_2.index t 2 = t.val % 2 ∧ win0_2.index t 3 = 0 ∧ win0_2.index t 4 = 0 :=
  (by decide +kernel : ∀ t : Fin grid0.N, win0_2.index t 0 = t.val / 2 ∧ win0_2.index t 1 = 2 ∧ win0_2.index t 2 = t.val % 2 ∧ win0_2.index t 3 = 0 ∧ win0_2.index t 4 = 0)

/-- The tiles of window 2's block at grid point `t` of batch row `b`. -/
theorem tiles2 (c : Dev nD) (t : Fin cfg0.N) (b : Fin 8) (hb : t.val / 2 = b.val) (k : Fin 336) (a : Fin 8) (d : Fin 224) :
    k0_pay6 (iblk m c 2 t) (ix3 k a d) = m ((c.tc : Thread nD τ).loc main_arg0) (at4 b (chan 2 t.val * 50176 + (k.val * 1792 + a.val * 224 + d.val))) := by
  refine tiles_of_block (m ((c.tc : Thread nD τ).loc main_arg0)) (iblk m c 2 t) b (chan 2 t.val) (by unfold chan; omega) ?_ k a d
  intro e r q
  have hi := index2 t
  unfold iblk
  rw [View.read_apply]
  show V m c main_v0 _ = _
  rw [V_logits, reshaped]
  set_option maxRecDepth 4000 in
  refine congrArg₂ (fun B N => m ((c.tc : Thread nD τ).loc main_arg0) (at4 B N)) (Fin.ext ?_) ?_
  · show win0_2.index t 0 * 1 + 1 * 0 = b.val
    rw [hi.1]; omega
  · show ((win0_2.index t 1 * 1 + 1 * 0) * 24 + (win0_2.index t 2 * 12 + 1 * e.val)) * 50176 + (win0_2.index t 3 * 224 + 1 * r.val) * 224 + (win0_2.index t 4 * 224 + 1 * q.val) = _
    rw [hi.2.1, hi.2.2.1, hi.2.2.2.1, hi.2.2.2.2]
    unfold chan
    omega

theorem index3 : ∀ t : Fin cfg0.N, win0_3.index t 0 = t.val / 2 ∧ win0_3.index t 1 = 3 ∧ win0_3.index t 2 = t.val % 2 ∧ win0_3.index t 3 = 0 ∧ win0_3.index t 4 = 0 :=
  (by decide +kernel : ∀ t : Fin grid0.N, win0_3.index t 0 = t.val / 2 ∧ win0_3.index t 1 = 3 ∧ win0_3.index t 2 = t.val % 2 ∧ win0_3.index t 3 = 0 ∧ win0_3.index t 4 = 0)

/-- The tiles of window 3's block at grid point `t` of batch row `b`. -/
theorem tiles3 (c : Dev nD) (t : Fin cfg0.N) (b : Fin 8) (hb : t.val / 2 = b.val) (k : Fin 336) (a : Fin 8) (d : Fin 224) :
    k0_pay6 (iblk m c 3 t) (ix3 k a d) = m ((c.tc : Thread nD τ).loc main_arg0) (at4 b (chan 3 t.val * 50176 + (k.val * 1792 + a.val * 224 + d.val))) := by
  refine tiles_of_block (m ((c.tc : Thread nD τ).loc main_arg0)) (iblk m c 3 t) b (chan 3 t.val) (by unfold chan; omega) ?_ k a d
  intro e r q
  have hi := index3 t
  unfold iblk
  rw [View.read_apply]
  show V m c main_v0 _ = _
  rw [V_logits, reshaped]
  set_option maxRecDepth 4000 in
  refine congrArg₂ (fun B N => m ((c.tc : Thread nD τ).loc main_arg0) (at4 B N)) (Fin.ext ?_) ?_
  · show win0_3.index t 0 * 1 + 1 * 0 = b.val
    rw [hi.1]; omega
  · show ((win0_3.index t 1 * 1 + 1 * 0) * 24 + (win0_3.index t 2 * 12 + 1 * e.val)) * 50176 + (win0_3.index t 3 * 224 + 1 * r.val) * 224 + (win0_3.index t 4 * 224 + 1 * q.val) = _
    rw [hi.2.1, hi.2.2.1, hi.2.2.2.1, hi.2.2.2.2]
    unfold chan
    omega

theorem index4 : ∀ t : Fin cfg0.N, win0_4.index t 0 = t.val / 2 ∧ win0_4.index t 1 = 0 ∧ win0_4.index t 2 = t.val % 2 ∧ win0_4.index t 3 = 0 ∧ win0_4.index t 4 = 0 :=
  (by decide +kernel : ∀ t : Fin grid0.N, win0_4.index t 0 = t.val / 2 ∧ win0_4.index t 1 = 0 ∧ win0_4.index t 2 = t.val % 2 ∧ win0_4.index t 3 = 0 ∧ win0_4.index t 4 = 0)

/-- The tiles of window 4's block at grid point `t` of batch row `b`. -/
theorem tiles4 (c : Dev nD) (t : Fin cfg0.N) (b : Fin 8) (hb : t.val / 2 = b.val) (k : Fin 336) (a : Fin 8) (d : Fin 224) :
    k0_pay7 (iblk m c 4 t) (ix3 k a d) = m ((c.tc : Thread nD τ).loc main_arg1) (at4 b (chan 0 t.val * 50176 + (k.val * 1792 + a.val * 224 + d.val))) := by
  refine tiles_of_block (m ((c.tc : Thread nD τ).loc main_arg1)) (iblk m c 4 t) b (chan 0 t.val) (by unfold chan; omega) ?_ k a d
  intro e r q
  have hi := index4 t
  unfold iblk
  rw [View.read_apply]
  show V m c main_v1 _ = _
  rw [V_targets, reshaped]
  set_option maxRecDepth 4000 in
  refine congrArg₂ (fun B N => m ((c.tc : Thread nD τ).loc main_arg1) (at4 B N)) (Fin.ext ?_) ?_
  · show win0_4.index t 0 * 1 + 1 * 0 = b.val
    rw [hi.1]; omega
  · show ((win0_4.index t 1 * 1 + 1 * 0) * 24 + (win0_4.index t 2 * 12 + 1 * e.val)) * 50176 + (win0_4.index t 3 * 224 + 1 * r.val) * 224 + (win0_4.index t 4 * 224 + 1 * q.val) = _
    rw [hi.2.1, hi.2.2.1, hi.2.2.2.1, hi.2.2.2.2]
    unfold chan
    omega

theorem index5 : ∀ t : Fin cfg0.N, win0_5.index t 0 = t.val / 2 ∧ win0_5.index t 1 = 1 ∧ win0_5.index t 2 = t.val % 2 ∧ win0_5.index t 3 = 0 ∧ win0_5.index t 4 = 0 :=
  (by decide +kernel : ∀ t : Fin grid0.N, win0_5.index t 0 = t.val / 2 ∧ win0_5.index t 1 = 1 ∧ win0_5.index t 2 = t.val % 2 ∧ win0_5.index t 3 = 0 ∧ win0_5.index t 4 = 0)

/-- The tiles of window 5's block at grid point `t` of batch row `b`. -/
theorem tiles5 (c : Dev nD) (t : Fin cfg0.N) (b : Fin 8) (hb : t.val / 2 = b.val) (k : Fin 336) (a : Fin 8) (d : Fin 224) :
    k0_pay7 (iblk m c 5 t) (ix3 k a d) = m ((c.tc : Thread nD τ).loc main_arg1) (at4 b (chan 1 t.val * 50176 + (k.val * 1792 + a.val * 224 + d.val))) := by
  refine tiles_of_block (m ((c.tc : Thread nD τ).loc main_arg1)) (iblk m c 5 t) b (chan 1 t.val) (by unfold chan; omega) ?_ k a d
  intro e r q
  have hi := index5 t
  unfold iblk
  rw [View.read_apply]
  show V m c main_v1 _ = _
  rw [V_targets, reshaped]
  set_option maxRecDepth 4000 in
  refine congrArg₂ (fun B N => m ((c.tc : Thread nD τ).loc main_arg1) (at4 B N)) (Fin.ext ?_) ?_
  · show win0_5.index t 0 * 1 + 1 * 0 = b.val
    rw [hi.1]; omega
  · show ((win0_5.index t 1 * 1 + 1 * 0) * 24 + (win0_5.index t 2 * 12 + 1 * e.val)) * 50176 + (win0_5.index t 3 * 224 + 1 * r.val) * 224 + (win0_5.index t 4 * 224 + 1 * q.val) = _
    rw [hi.2.1, hi.2.2.1, hi.2.2.2.1, hi.2.2.2.2]
    unfold chan
    omega

theorem index6 : ∀ t : Fin cfg0.N, win0_6.index t 0 = t.val / 2 ∧ win0_6.index t 1 = 2 ∧ win0_6.index t 2 = t.val % 2 ∧ win0_6.index t 3 = 0 ∧ win0_6.index t 4 = 0 :=
  (by decide +kernel : ∀ t : Fin grid0.N, win0_6.index t 0 = t.val / 2 ∧ win0_6.index t 1 = 2 ∧ win0_6.index t 2 = t.val % 2 ∧ win0_6.index t 3 = 0 ∧ win0_6.index t 4 = 0)

/-- The tiles of window 6's block at grid point `t` of batch row `b`. -/
theorem tiles6 (c : Dev nD) (t : Fin cfg0.N) (b : Fin 8) (hb : t.val / 2 = b.val) (k : Fin 336) (a : Fin 8) (d : Fin 224) :
    k0_pay7 (iblk m c 6 t) (ix3 k a d) = m ((c.tc : Thread nD τ).loc main_arg1) (at4 b (chan 2 t.val * 50176 + (k.val * 1792 + a.val * 224 + d.val))) := by
  refine tiles_of_block (m ((c.tc : Thread nD τ).loc main_arg1)) (iblk m c 6 t) b (chan 2 t.val) (by unfold chan; omega) ?_ k a d
  intro e r q
  have hi := index6 t
  unfold iblk
  rw [View.read_apply]
  show V m c main_v1 _ = _
  rw [V_targets, reshaped]
  set_option maxRecDepth 4000 in
  refine congrArg₂ (fun B N => m ((c.tc : Thread nD τ).loc main_arg1) (at4 B N)) (Fin.ext ?_) ?_
  · show win0_6.index t 0 * 1 + 1 * 0 = b.val
    rw [hi.1]; omega
  · show ((win0_6.index t 1 * 1 + 1 * 0) * 24 + (win0_6.index t 2 * 12 + 1 * e.val)) * 50176 + (win0_6.index t 3 * 224 + 1 * r.val) * 224 + (win0_6.index t 4 * 224 + 1 * q.val) = _
    rw [hi.2.1, hi.2.2.1, hi.2.2.2.1, hi.2.2.2.2]
    unfold chan
    omega

theorem index7 : ∀ t : Fin cfg0.N, win0_7.index t 0 = t.val / 2 ∧ win0_7.index t 1 = 3 ∧ win0_7.index t 2 = t.val % 2 ∧ win0_7.index t 3 = 0 ∧ win0_7.index t 4 = 0 :=
  (by decide +kernel : ∀ t : Fin grid0.N, win0_7.index t 0 = t.val / 2 ∧ win0_7.index t 1 = 3 ∧ win0_7.index t 2 = t.val % 2 ∧ win0_7.index t 3 = 0 ∧ win0_7.index t 4 = 0)

/-- The tiles of window 7's block at grid point `t` of batch row `b`. -/
theorem tiles7 (c : Dev nD) (t : Fin cfg0.N) (b : Fin 8) (hb : t.val / 2 = b.val) (k : Fin 336) (a : Fin 8) (d : Fin 224) :
    k0_pay7 (iblk m c 7 t) (ix3 k a d) = m ((c.tc : Thread nD τ).loc main_arg1) (at4 b (chan 3 t.val * 50176 + (k.val * 1792 + a.val * 224 + d.val))) := by
  refine tiles_of_block (m ((c.tc : Thread nD τ).loc main_arg1)) (iblk m c 7 t) b (chan 3 t.val) (by unfold chan; omega) ?_ k a d
  intro e r q
  have hi := index7 t
  unfold iblk
  rw [View.read_apply]
  show V m c main_v1 _ = _
  rw [V_targets, reshaped]
  set_option maxRecDepth 4000 in
  refine congrArg₂ (fun B N => m ((c.tc : Thread nD τ).loc main_arg1) (at4 B N)) (Fin.ext ?_) ?_
  · show win0_7.index t 0 * 1 + 1 * 0 = b.val
    rw [hi.1]; omega
  · show ((win0_7.index t 1 * 1 + 1 * 0) * 24 + (win0_7.index t 2 * 12 + 1 * e.val)) * 50176 + (win0_7.index t 3 * 224 + 1 * r.val) * 224 + (win0_7.index t 4 * 224 + 1 * q.val) = _
    rw [hi.2.1, hi.2.2.1, hi.2.2.2.1, hi.2.2.2.2]
    unfold chan
    omega

end Cert.KernelIdeal.Value

end
-- ==== Proof.Reals.lean ====
/-
  Real numbers among the extended reals: finite sums and maxima of reals are reals.
-/
module

public import Idealize.ShloMosaic.PureOps.Ideal.Laws

@[expose] public section

noncomputable section

open Idealize.ShloMosaic

namespace Cert.Rows

/-- Minus infinity's word is the extended reals' bottom. -/
theorem ofBits_ninf : Ideal.ofBits .f32 0xFF800000#32 = ⊥ := by simp [Ideal.ofBits, Ideal.ieee]

/-- The coercion of a finite sum of reals. -/
theorem coe_sum {ι : Type*} [Fintype ι] (f : ι → ℝ) : ((∑ i, f i : ℝ) : EReal) = ∑ i, (f i : EReal) :=
  map_sum (⟨⟨((↑) : ℝ → EReal), EReal.coe_zero⟩, EReal.coe_add⟩ : ℝ →+ EReal) f Finset.univ

/-- An extended real strictly between the infinities is a real. -/
theorem real_of_between {y : EReal} (h1 : ⊥ < y) (h2 : y < ⊤) : ∃ r : ℝ, y = r :=
  ⟨y.toReal, (EReal.coe_toReal h2.ne h1.ne').symm⟩

/-- The maximum, from minus infinity, of a nonempty finite family of reals is a real. -/
theorem fold_max_real {ι : Type*} [Fintype ι] (i0 : ι) (f : ι → EReal) (hf : ∀ i, ∃ r : ℝ, f i = r) :
    ∃ r : ℝ, (Finset.univ : Finset ι).fold max ⊥ f = r := by
  apply real_of_between
  · rw [Finset.lt_fold_max]
    obtain ⟨r, hr⟩ := hf i0
    exact Or.inr ⟨i0, Finset.mem_univ _, by rw [hr]; exact EReal.bot_lt_coe r⟩
  · rw [Finset.fold_max_lt]
    refine ⟨bot_lt_top, fun i _ => ?_⟩
    obtain ⟨r, hr⟩ := hf i
    rw [hr]; exact EReal.coe_lt_top r

/-- A finite sum of reals indexed below `n`, as a sum over a range of natural numbers. -/
theorem coe_sum_fin (n : ℕ) (f : ℕ → ℝ) (g : Fin n → EReal) (h : ∀ k, g k = (f k.val : EReal)) : ∑ k, g k = ((∑ k ∈ Finset.range n, f k : ℝ) : EReal) := by
  rw [Finset.sum_range, coe_sum]
  exact Finset.sum_congr rfl fun k _ => h k

end Cert.Rows

end
-- ==== Proof.Lanes.lean ====
/-
  The running statistics over the extended reals, lane by lane, when the blocks hold real numbers. After any number of
  blocks a lane's maximum is some real `μ` (or minus infinity before the first block) and its running sum is the sum of
  the exponentials seen so far times `exp (-μ)`; the other two statistics are plain sums.
-/
module

public import proofs.«01_k».proof.Proof.Steps
public import proofs.«01_k».proof.Proof.Reals
public import Idealize.ShloMosaic.Lib.ValueIdxCore
public import Idealize.ShloMosaic.Lib.ValueLayout
public import Idealize.ShloMosaic.PureOps.Ideal.Laws

@[expose] public section

noncomputable section

open Idealize.ShloMosaic Idealize.ShloMosaic.TcCoe Idealize.SL.Sem Idealize.ShloMosaic.ValueIdx Cert.Rows

namespace Cert.KernelIdeal.Value

open Cert.KernelIdeal Cert.KernelIdeal.Gen

/-- A lane's maximum after a block of reals is a real, whether the lane held a real or minus infinity. -/
theorem max_real (x : Vec Ideal S1x1x12x224x224 .f32) (v : FVec Ideal S8x224 .f32) (a : Fin 8) (d : Fin 224) (X : Fin 336 → ℝ)
    (hX : ∀ k, k0_pay6 x (ix3 k a d) = (X k : EReal)) (hv : (∃ μ : ℝ, v (ix2 a d) = (μ : EReal)) ∨ v (ix2 a d) = ⊥) :
    ∃ μ : ℝ, k0_pay8 x v (ix2 a d) = (μ : EReal) := by
  obtain ⟨r, hr⟩ := fold_max_real (0 : Fin 336) (fun k => k0_pay6 x (ix3 k a d)) (fun k => ⟨X k, hX k⟩)
  have e : k0_pay8 x v (ix2 a d) = max (v (ix2 a d)) (r : EReal) := by
    unfold k0_pay8
    show max (v (ix2 a d)) (multiReduction .maximumf [0] S8x224 (k0_pay6 x) 0xFF800000#32 reduces_S336x8x224_S8x224 (.inl rfl) rfl (ix2 a d)) = _
    refine congrArg (max _) ?_
    refine (Ideal.multiReduction_maximumf_single (k0_pay6 x) 0xFF800000#32 reduces_S336x8x224_S8x224 (.inl rfl) rfl (ix2 a d)).trans ?_
    refine Eq.trans ?_ hr
    show Finset.fold max (Ideal.ofBits .f32 0xFF800000#32) _ _ = _
    rw [ofBits_ninf]
    congr 1
  rw [e]
  rcases hv with ⟨μ, hμ⟩ | hb
  · exact ⟨max μ r, by rw [hμ]; exact (EReal.coe_strictMono.monotone.map_max).symm⟩
  · exact ⟨r, by rw [hb]; exact max_eq_right bot_le⟩

/-- What a sum over the 336 tiles holds in a lane. -/
theorem sum_tiles (v : FVec Ideal S336x8x224 .f32) (a : Fin 8) (d : Fin 224) :
    multiReduction .add [0] S8x224 v 0x00000000#32 reduces_S336x8x224_S8x224 (.inl rfl) rfl (ix2 a d) = ∑ k : Fin 336, v (ix3 k a d) := by
  refine (Ideal.multiReduction_add_single v 0x00000000#32 reduces_S336x8x224_S8x224 (.inl rfl) rfl (ix2 a d)).trans ?_
  refine Finset.sum_congr rfl fun k _ => congrArg v (funext fun b => ?_)
  match b with
  | ⟨0, _⟩ => rfl
  | ⟨1, _⟩ => rfl
  | ⟨2, _⟩ => rfl

/-- A lane of the statistics: `A` is the sum of exponentials, `B` of products, `C` of targets seen so far. -/
def Lane (st : St Ideal) (a : Fin 8) (d : Fin 224) (A B C : ℝ) : Prop :=
  ((∃ μ : ℝ, st.1 (ix2 a d) = (μ : EReal) ∧ st.2.1 (ix2 a d) = ((A * Real.exp (-μ) : ℝ) : EReal))
      ∨ (st.1 (ix2 a d) = ⊥ ∧ st.2.1 (ix2 a d) = 0 ∧ A = 0))
    ∧ st.2.2.1 (ix2 a d) = (B : EReal) ∧ st.2.2.2 (ix2 a d) = (C : EReal)

/-- A lane that has seen at least one block: its maximum is a real. -/
def LaneReal (st : St Ideal) (a : Fin 8) (d : Fin 224) (A B C : ℝ) : Prop :=
  (∃ μ : ℝ, st.1 (ix2 a d) = (μ : EReal) ∧ st.2.1 (ix2 a d) = ((A * Real.exp (-μ) : ℝ) : EReal))
    ∧ st.2.2.1 (ix2 a d) = (B : EReal) ∧ st.2.2.2 (ix2 a d) = (C : EReal)

theorem LaneReal.lane {st : St Ideal} {a : Fin 8} {d : Fin 224} {A B C : ℝ} (h : LaneReal st a d A B C) : Lane st a d A B C :=
  ⟨Or.inl h.1, h.2⟩

/-- Before any block every sum is empty. -/
theorem lane_start (a : Fin 8) (d : Fin 224) : Lane start a d 0 0 0 := by
  refine ⟨Or.inr ⟨?_, ?_, rfl⟩, ?_, ?_⟩
  · show k0_pay2 (F := Ideal) (ix2 a d) = ⊥
    exact ofBits_ninf
  · exact Ideal.ofBits_zero_f32
  · exact Ideal.ofBits_zero_f32
  · exact Ideal.ofBits_zero_f32

/-- One block of reals adds its tiles' exponentials, products and targets to the lane's three sums. -/
theorem lane_step (x t : Vec Ideal S1x1x12x224x224 .f32) (st : St Ideal) (a : Fin 8) (d : Fin 224) (X T : Fin 336 → ℝ) (A B C : ℝ)
    (hX : ∀ k, k0_pay6 x (ix3 k a d) = (X k : EReal)) (hT : ∀ k, k0_pay7 t (ix3 k a d) = (T k : EReal)) (h : Lane st a d A B C) :
    LaneReal (step x t st) a d (A + ∑ k, Real.exp (X k)) (B + ∑ k, T k * X k) (C + ∑ k, T k) := by
  obtain ⟨hms, htx, hts⟩ := h
  refine ⟨?_, ?_, ?_⟩
  · obtain ⟨μ, hμ⟩ := max_real x st.1 a d X hX (hms.imp (fun ⟨μ, h, _⟩ => ⟨μ, h⟩) (fun h => h.1))
    refine ⟨μ, ?_, ?_⟩
    · show k0_pay10 x st.1 (ix2 a d) = _
      unfold k0_pay10
      rw [shapeCast_self]
      exact hμ
    · show k0_pay9 x st.1 st.2.1 (ix2 a d) = _
      unfold k0_pay9
      rw [shapeCast_self]
      show st.2.1 (ix2 a d) * Ideal.exp (st.1 (ix2 a d) - k0_pay8 x st.1 (ix2 a d)) + multiReduction .add [0] S8x224 _ 0x00000000#32 reduces_S336x8x224_S8x224 (.inl rfl) rfl (ix2 a d) = _
      rw [sum_tiles]
      have e : ∀ k : Fin 336, exp (subf (k0_pay6 x) (broadcastTo S336x8x224 (shapeCast S1x8x224 (k0_pay8 x st.1) shapeCasts_S8x224_S1x8x224) broadcasts_S1x8x224_S336x8x224)) (ix3 k a d) = ((Real.exp (X k) * Real.exp (-μ) : ℝ) : EReal) := by
        intro k
        show Ideal.exp (k0_pay6 x (ix3 k a d) - broadcastTo S336x8x224 (shapeCast S1x8x224 (k0_pay8 x st.1) shapeCasts_S8x224_S1x8x224) broadcasts_S1x8x224_S336x8x224 (ix3 k a d)) = _
        rw [broadcastTo_apply _ _ (ix3 k a d) (ix3 (0 : Fin 1) a d) (fun b => by
            match b with
            | ⟨0, _⟩ => rfl
            | ⟨1, _⟩ => rfl
            | ⟨2, _⟩ => rfl), shapeCast_ab_1ab_apply, hμ, hX, ← EReal.coe_sub, Ideal.exp_coe, sub_eq_add_neg, Real.exp_add]
      rw [Finset.sum_congr rfl fun k _ => e k, ← coe_sum, ← Finset.sum_mul, hμ]
      rcases hms with ⟨ν, hν, hs⟩ | ⟨hν, hs, hA⟩
      · rw [hν, hs, ← EReal.coe_sub, Ideal.exp_coe, ← EReal.coe_mul, ← EReal.coe_add, add_mul, mul_assoc, ← Real.exp_add]
        congr 5
        ring
      · rw [hs, zero_mul, zero_add, hA, zero_add]
  · show k0_pay12 st.2.2.1 (k0_pay11 x t) (ix2 a d) = _
    unfold k0_pay12
    rw [shapeCast_self]
    show st.2.2.1 (ix2 a d) + multiReduction .add [0] S8x224 _ 0x00000000#32 reduces_S336x8x224_S8x224 (.inl rfl) rfl (ix2 a d) = _
    rw [sum_tiles, htx, EReal.coe_add, coe_sum]
    refine congrArg _ (Finset.sum_congr rfl fun k _ => ?_)
    show k0_pay7 t (ix3 k a d) * k0_pay6 x (ix3 k a d) = _
    rw [hT, hX, EReal.coe_mul]
  · show k0_pay13 (k0_pay7 t) st.2.2.2 (ix2 a d) = _
    unfold k0_pay13
    rw [shapeCast_self]
    show st.2.2.2 (ix2 a d) + multiReduction .add [0] S8x224 _ 0x00000000#32 reduces_S336x8x224_S8x224 (.inl rfl) rfl (ix2 a d) = _
    rw [sum_tiles, hts, EReal.coe_add, coe_sum]
    exact congrArg _ (Finset.sum_congr rfl fun k _ => hT k)

end Cert.KernelIdeal.Value

end
-- ==== Proof.Flat.lean ====
/-
  A batch row has 4816896 entries; the kernel meets them as 8 stretches of 602112, each as 336 tiles of 8 by 224 lanes.
  Summing a function of the entry lane by lane is summing it over the row. The last definition is
  the loss of one row of reals.
-/
module

public import Mathlib.Algebra.BigOperators.Fin
public import Mathlib.Algebra.BigOperators.Intervals
public import Mathlib.Analysis.SpecialFunctions.Log.Basic
public import Mathlib.Tactic.Ring
public import Mathlib.Tactic.Abel

@[expose] public section

noncomputable section

namespace Cert.Rows

/-- A sum over `p * q` numbers, `q` at a time. -/
theorem sum_range_mul (f : ℕ → ℝ) (p q : ℕ) : ∑ n ∈ Finset.range (p * q), f n = ∑ i ∈ Finset.range p, ∑ j ∈ Finset.range q, f (i * q + j) := by
  induction p with
  | zero => simp
  | succ p ih => rw [Nat.succ_mul, Finset.sum_range_add, ih, Finset.sum_range_succ]

/-- Lane `(a, d)` of stretch `i`, summed over its tiles. -/
def piece (f : ℕ → ℝ) (i : ℕ) (a : Fin 8) (d : Fin 224) : ℝ := ∑ k : Fin 336, f (i * 602112 + (k.val * 1792 + a.val * 224 + d.val))

/-- Lane `(a, d)` of the row, in the order the kernel meets its stretches: the even ones, then the odd ones. -/
def lane (f : ℕ → ℝ) (a : Fin 8) (d : Fin 224) : ℝ :=
  0 + piece f 0 a d + piece f 2 a d + piece f 4 a d + piece f 6 a d + piece f 1 a d + piece f 3 a d + piece f 5 a d + piece f 7 a d

/-- All lanes of one stretch. -/
theorem sum_piece (f : ℕ → ℝ) (i : ℕ) : ∑ a, ∑ d, piece f i a d = ∑ n ∈ Finset.range 602112, f (i * 602112 + n) := by
  have e : ∑ n ∈ Finset.range (336 * (8 * 224)), f (i * 602112 + n) = ∑ k ∈ Finset.range 336, ∑ a ∈ Finset.range 8, ∑ d ∈ Finset.range 224, f (i * 602112 + (k * 1792 + a * 224 + d)) := by
    rw [sum_range_mul (fun n => f (i * 602112 + n))]
    refine Finset.sum_congr rfl fun k _ => ?_
    rw [sum_range_mul (fun r => f (i * 602112 + (k * (8 * 224) + r)))]
    refine Finset.sum_congr rfl fun a _ => Finset.sum_congr rfl fun d _ => ?_
    congr 1
    omega
  refine Eq.trans ?_ e.symm
  unfold piece
  rw [Finset.sum_range]
  simp only [Finset.sum_range]
  rw [Finset.sum_congr rfl fun (a : Fin 8) _ => Finset.sum_comm (s := (Finset.univ : Finset (Fin 224))), Finset.sum_comm]

/-- All lanes of the row. -/
theorem sum_lane (f : ℕ → ℝ) : ∑ a, ∑ d, lane f a d = ∑ n ∈ Finset.range 4816896, f n := by
  have e : ∑ n ∈ Finset.range (8 * 602112), f n = _ := sum_range_mul f 8 602112
  refine Eq.trans ?_ e.symm
  obtain ⟨G, hG⟩ : ∃ G : ℕ → ℝ, ∀ i, ∑ n ∈ Finset.range 602112, f (i * 602112 + n) = G i := ⟨_, fun _ => rfl⟩
  unfold lane
  simp only [Finset.sum_add_distrib, sum_piece, Finset.sum_const_zero, hG]
  simp only [Finset.sum_range_succ, Finset.sum_range_zero]
  abel

/-- The loss of a row of real logits `X` and targets `T`. -/
def lossR (X T : ℕ → ℝ) : ℝ :=
  (∑ n ∈ Finset.range 4816896, T n) * Real.log (∑ n ∈ Finset.range 4816896, Real.exp (X n)) - ∑ n ∈ Finset.range 4816896, T n * X n

end Cert.Rows

end
-- ==== Proof.RowLoss.lean ====
/-
  The loss the kernel writes for one batch row, as a real number of the row's logits `X` and targets `T`:
  `(Σ T) · log (Σ exp X) − Σ T · X`.
-/
module

public import proofs.«01_k».proof.Proof.Points
public import proofs.«01_k».proof.Proof.Blocks
public import proofs.«01_k».proof.Proof.Lanes
public import proofs.«01_k».proof.Proof.Flat

@[expose] public section

noncomputable section

open Idealize.ShloMosaic Idealize.ShloMosaic.TcCoe Idealize.SL.Sem Idealize.ShloMosaic.ValueIdx Cert.Rows

namespace Cert.KernelIdeal.Value

open Cert.KernelIdeal Cert.KernelIdeal.Gen

/-- The total of a tile of 8 by 224 numbers, as the kernel's last step takes it. -/
theorem total_tile (v : FVec Ideal S8x224 .f32) (j : S1.Idx) :
    multiReduction .add [1, 2] S1 (shapeCast S1x8x224 v shapeCasts_S8x224_S1x8x224) 0x00000000#32 reduces_S1x8x224_S1 (.inl rfl) rfl j
      = ∑ a : Fin 8, ∑ d : Fin 224, v (ix2 a d) := by
  refine (Ideal.multiReduction_add_total _ 0x00000000#32 reduces_S1x8x224_S1 (fun b => by match b with | ⟨0, _⟩ => rfl) (.inl rfl) rfl j).trans ?_
  rw [← sum_idx2]
  exact Equiv.sum_comp (Shape.reshapeEquiv shapeCasts_S8x224_S1x8x224) v

/-- The maximum of a tile of real numbers is a real number. -/
theorem max_tile (v : FVec Ideal S8x224 .f32) (hv : ∀ a d, ∃ r : ℝ, v (ix2 a d) = (r : EReal)) (j : S1.Idx) :
    ∃ r : ℝ, multiReduction .maximumf [1, 2] S1 (shapeCast S1x8x224 v shapeCasts_S8x224_S1x8x224) 0xFF800000#32 reduces_S1x8x224_S1 (.inl rfl) rfl j = (r : EReal) := by
  have hall : ∀ i : S1x8x224.Idx, ∃ r : ℝ, shapeCast S1x8x224 v shapeCasts_S8x224_S1x8x224 i = (r : EReal) := by
    intro i
    obtain ⟨r, hr⟩ := hv (Shape.reshapeEquiv shapeCasts_S8x224_S1x8x224 i 0) (Shape.reshapeEquiv shapeCasts_S8x224_S1x8x224 i 1)
    refine ⟨r, ?_⟩
    rw [← hr]
    exact congrArg v (eq_ix2 _)
  obtain ⟨r, hr⟩ := fold_max_real (ix3 (0 : Fin 1) (0 : Fin 8) (0 : Fin 224)) _ hall
  refine ⟨r, ?_⟩
  refine (multiReduction_maximumf_eq_fold (shapeCast S1x8x224 v shapeCasts_S8x224_S1x8x224) 0xFF800000#32 reduces_S1x8x224_S1 (.inl rfl) rfl j).trans ?_
  rw [Finset.filter_true_of_mem fun i _ => funext fun b => Fin.ext (by
    match b with
    | ⟨0, _⟩ =>
      have h1 : (reduces_S1x8x224_S1.drop i 0).val < 1 := (reduces_S1x8x224_S1.drop i 0).isLt
      have h2 : (j 0).val < 1 := (j 0).isLt
      show (reduces_S1x8x224_S1.drop i 0).val = (j 0).val
      omega)]
  refine Eq.trans ?_ hr
  show Finset.fold max (Ideal.ofBits .f32 0xFF800000#32) _ _ = _
  rw [ofBits_ninf]

/-- The kernel's last step: from lanes holding `A` (exponentials), `B` (products) and `C` (targets), the loss. -/
theorem loss_of_lanes (st : St Ideal) (A B C : Fin 8 → Fin 224 → ℝ) (h : ∀ a d, LaneReal st a d (A a d) (B a d) (C a d))
    (hA : 0 < ∑ a, ∑ d, A a d) :
    k0_pay1 (F := Ideal) st.1 st.2.1 st.2.2.2 st.2.2.1
      = (((∑ a, ∑ d, C a d) * Real.log (∑ a, ∑ d, A a d) - ∑ a, ∑ d, B a d : ℝ) : EReal) := by
  let j : S1.Idx := Shape.reshapeEquiv shapeCasts_S1_S1x1x1 (fun b => ⟨![0, 0, 0] b, inpos_S1x1x1_p0_0_0 b⟩)
  obtain ⟨M, hM⟩ := max_tile st.1 (fun a d => let ⟨μ, hμ, _⟩ := (h a d).1; ⟨μ, hμ⟩) j
  have tot : ∀ (v : FVec Ideal S8x224 .f32) (G : Fin 8 → Fin 224 → ℝ), (∀ a d, v (ix2 a d) = (G a d : EReal)) →
      multiReduction .add [1, 2] S1 (shapeCast S1x8x224 v shapeCasts_S8x224_S1x8x224) 0x00000000#32 reduces_S1x8x224_S1 (.inl rfl) rfl j
        = ((∑ a, ∑ d, G a d : ℝ) : EReal) := by
    intro v G hv
    rw [total_tile, coe_sum]
    refine Finset.sum_congr rfl fun a _ => ?_
    rw [coe_sum]
    exact Finset.sum_congr rfl fun d _ => hv a d
  show (multiReduction .add [1, 2] S1 (shapeCast S1x8x224 st.2.2.2 shapeCasts_S8x224_S1x8x224) 0x00000000#32 reduces_S1x8x224_S1 (.inl rfl) rfl j : EReal)
      * ((multiReduction .maximumf [1, 2] S1 (shapeCast S1x8x224 st.1 shapeCasts_S8x224_S1x8x224) 0xFF800000#32 reduces_S1x8x224_S1 (.inl rfl) rfl j : EReal)
        + Ideal.log (multiReduction .add [1, 2] S1 (shapeCast S1x8x224 (mulf st.2.1 (exp (subf st.1 (broadcast S8x224
            (multiReduction .maximumf [1, 2] S1 (shapeCast S1x8x224 st.1 shapeCasts_S8x224_S1x8x224) 0xFF800000#32 reduces_S1x8x224_S1 (.inl rfl) rfl j))))) shapeCasts_S8x224_S1x8x224) 0x00000000#32 reduces_S1x8x224_S1 (.inl rfl) rfl j))
      - (multiReduction .add [1, 2] S1 (shapeCast S1x8x224 st.2.2.1 shapeCasts_S8x224_S1x8x224) 0x00000000#32 reduces_S1x8x224_S1 (.inl rfl) rfl j : EReal) = _
  rw [hM, tot st.2.2.2 C fun a d => (h a d).2.2, tot st.2.2.1 B fun a d => (h a d).2.1,
    tot _ (fun a d => A a d * Real.exp (-M)) fun a d => by
      obtain ⟨μ, hμ, hs⟩ := (h a d).1
      show st.2.1 (ix2 a d) * Ideal.exp (st.1 (ix2 a d) - (M : EReal)) = _
      rw [hμ, hs, ← EReal.coe_sub, Ideal.exp_coe, ← EReal.coe_mul, mul_assoc, ← Real.exp_add, show -μ + (μ - M) = -M by ring]]
  simp only [← Finset.sum_mul]
  rw [Ideal.log_coe, if_neg (not_le.mpr (mul_pos hA (Real.exp_pos _))), Real.log_mul hA.ne' (Real.exp_pos _).ne', Real.log_exp,
    ← EReal.coe_add, ← EReal.coe_mul, ← EReal.coe_sub]
  refine congrArg (fun r : ℝ => (r : EReal)) ?_
  ring

variable (m : (ℓ : Loc nD τ sig) → Buf (Elt Ideal) ℓ)

/-- Lane `(a, d)` of batch row `b`'s statistics, for an input of reals. -/
theorem lane_row (c : Dev nD) (b : Fin 8) (X T : ℕ → ℝ) (a : Fin 8) (d : Fin 224)
    (hX : ∀ n, m ((c.tc : Thread nD τ).loc main_arg0) (at4 b n) = (X n : EReal)) (hT : ∀ n, m ((c.tc : Thread nD τ).loc main_arg1) (at4 b n) = (T n : EReal)) :
    LaneReal (rowStats m c b) a d (lane (fun n => Real.exp (X n)) a d) (lane (fun n => T n * X n) a d) (lane T a d) := by
  have hA0 : (ptA b).val / 2 = b.val := by show 2 * b.val / 2 = b.val; omega
  have hB0 : (ptB b).val / 2 = b.val := by show (2 * b.val + 1) / 2 = b.val; omega
  have cA : ∀ s i : ℕ, i = 2 * s → chan s (ptA b).val * 50176 = i * 602112 := by
    intro s i h; show (s * 24 + 2 * b.val % 2 * 12) * 50176 = _; omega
  have cB : ∀ s i : ℕ, i = 2 * s + 1 → chan s (ptB b).val * 50176 = i * 602112 := by
    intro s i h; show (s * 24 + (2 * b.val + 1) % 2 * 12) * 50176 = _; omega
  have one : ∀ (i : ℕ) (x t : Vec Ideal S1x1x12x224x224 .f32) (st : St Ideal) (A B C : ℝ),
      (∀ k : Fin 336, k0_pay6 x (ix3 k a d) = m ((c.tc : Thread nD τ).loc main_arg0) (at4 b (i * 602112 + (k.val * 1792 + a.val * 224 + d.val)))) →
      (∀ k : Fin 336, k0_pay7 t (ix3 k a d) = m ((c.tc : Thread nD τ).loc main_arg1) (at4 b (i * 602112 + (k.val * 1792 + a.val * 224 + d.val)))) →
      Lane st a d A B C →
      LaneReal (step x t st) a d (A + piece (fun n => Real.exp (X n)) i a d) (B + piece (fun n => T n * X n) i a d) (C + piece T i a d) :=
    fun i x t st A B C hx ht h => lane_step x t st a d (fun k => X (i * 602112 + (k.val * 1792 + a.val * 224 + d.val)))
      (fun k => T (i * 602112 + (k.val * 1792 + a.val * 224 + d.val))) A B C (fun k => (hx k).trans (hX _)) (fun k => (ht k).trans (hT _)) h
  have s0 := one 0 _ _ _ _ _ _ (fun k => by rw [← cA 0 0 rfl]; exact tiles0 m c (ptA b) b hA0 k a d) (fun k => by rw [← cA 0 0 rfl]; exact tiles4 m c (ptA b) b hA0 k a d) (lane_start a d)
  have s1 := one 2 _ _ _ _ _ _ (fun k => by rw [← cA 1 2 rfl]; exact tiles1 m c (ptA b) b hA0 k a d) (fun k => by rw [← cA 1 2 rfl]; exact tiles5 m c (ptA b) b hA0 k a d) s0.lane
  have s2 := one 4 _ _ _ _ _ _ (fun k => by rw [← cA 2 4 rfl]; exact tiles2 m c (ptA b) b hA0 k a d) (fun k => by rw [← cA 2 4 rfl]; exact tiles6 m c (ptA b) b hA0 k a d) s1.lane
  have s3 := one 6 _ _ _ _ _ _ (fun k => by rw [← cA 3 6 rfl]; exact tiles3 m c (ptA b) b hA0 k a d) (fun k => by rw [← cA 3 6 rfl]; exact tiles7 m c (ptA b) b hA0 k a d) s2.lane
  have s4 := one 1 _ _ _ _ _ _ (fun k => by rw [← cB 0 1 rfl]; exact tiles0 m c (ptB b) b hB0 k a d) (fun k => by rw [← cB 0 1 rfl]; exact tiles4 m c (ptB b) b hB0 k a d) s3.lane
  have s5 := one 3 _ _ _ _ _ _ (fun k => by rw [← cB 1 3 rfl]; exact tiles1 m c (ptB b) b hB0 k a d) (fun k => by rw [← cB 1 3 rfl]; exact tiles5 m c (ptB b) b hB0 k a d) s4.lane
  have s6 := one 5 _ _ _ _ _ _ (fun k => by rw [← cB 2 5 rfl]; exact tiles2 m c (ptB b) b hB0 k a d) (fun k => by rw [← cB 2 5 rfl]; exact tiles6 m c (ptB b) b hB0 k a d) s5.lane
  have s7 := one 7 _ _ _ _ _ _ (fun k => by rw [← cB 3 7 rfl]; exact tiles3 m c (ptB b) b hB0 k a d) (fun k => by rw [← cB 3 7 rfl]; exact tiles7 m c (ptB b) b hB0 k a d) s6.lane
  exact s7

/-- What the kernel writes for batch row `b`. -/
theorem rowLoss_eq (c : Dev nD) (b : Fin 8) (X T : ℕ → ℝ)
    (hX : ∀ n, m ((c.tc : Thread nD τ).loc main_arg0) (at4 b n) = (X n : EReal)) (hT : ∀ n, m ((c.tc : Thread nD τ).loc main_arg1) (at4 b n) = (T n : EReal)) :
    rowLoss m c b = (lossR X T : EReal) := by
  have hpos : 0 < ∑ a, ∑ d, lane (fun n => Real.exp (X n)) a d := by
    rw [sum_lane]
    exact Finset.sum_pos (fun n _ => Real.exp_pos _) ⟨0, Finset.mem_range.mpr (by decide)⟩
  have h := loss_of_lanes (rowStats m c b) _ _ _ (fun a d => lane_row m c b X T a d hX hT) hpos
  rw [sum_lane, sum_lane, sum_lane] at h
  exact h

end Cert.KernelIdeal.Value

end
-- ==== Proof.Result.lean ====
/-
  The kernel's program from start to end: its result is the mean of the row losses.
-/
module

public import proofs.«01_k».proof.Proof.RowLoss

@[expose] public section

noncomputable section

open Idealize.ShloMosaic Idealize.ShloMosaic.TcCoe Idealize.SL.Sem Idealize.ShloMosaic.ValueIdx Cert.Rows

namespace Cert.KernelIdeal.Value

open Cert.KernelIdeal Cert.KernelIdeal.Gen

/-- The mean of the 8 losses, as the program takes it after the kernel: their sum from zero, over eight. -/
def meanOf {F : FTy → Type} [FloatOps F] (v : FVec F S8x1x1 .f32) : FVec F S_ .f32 :=
  Host.divf (Host.reduceAdd v (constant S_ .f32 0x00000000#32) reducesTo_S8x1x1_S_d0_1_2 h_S_) (constant S_ .f32 0x41000000#32)

/-- The program runs, its result is the mean of the row losses, and its arguments end unchanged. -/
theorem run_mean {F : FTy → Type} [FloatOps F] (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v4) = meanOf (losses m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from (Cert.KernelIdeal.Gen.run_main m g)
  · unfold Pipeline.afterTail₀
    simp only [hostOps1, List.flatten_cons, List.flatten_nil, List.append_nil]
    after_results_simp
    have hw : Pipeline.withArrays (cfgs 0).spec c (V0 m c) (fun w => (dats m 0 c).arrAt w (cfgs 0).N) (Proc.tc.devRef main_v2) = losses m c :=
      (Pipeline.withArrays_arr_shared spec0 c (V0 m c) (fun w => (dats m 0 c).arrAt w cfg0.N)
        ((dats m 0 c).arrAt_sharedIn sharedIn0 (V0 m c) (A_eq m c) cfg0.N) 8).trans (final_losses m c)
    rw [hw]
    rfl
  · exact W_main_arg0 m (dats m) c
  · exact W_main_arg1 m (dats m) c

/-- The mean of an array whose entry `b` is `f b`, over the extended reals. -/
theorem mean_apply (v : FVec Ideal S8x1x1 .f32) (f : Fin 8 → EReal) (h : ∀ b, v (ix3 b (0 : Fin 1) (0 : Fin 1)) = f b) (i : S_.Idx) :
    meanOf v i = Ideal.div (0 + ∑ b, f b) (Ideal.ofBits .f32 0x41000000#32) := by
  have hs : Host.reduceAdd v (constant S_ .f32 0x00000000#32) reducesTo_S8x1x1_S_d0_1_2 h_S_ i = 0 + ∑ b : Fin 8, f b := by
    refine (Ideal.hostReduceAdd_total reducesTo_S8x1x1_S_d0_1_2 (fun b => b.elim0) v _ i).trans ?_
    show Ideal.ofBits .f32 0x00000000#32 + _ = _
    rw [Ideal.ofBits_zero_f32]
    refine congrArg _ ?_
    let e : S8x1x1.Idx ≃ Fin 8 :=
      { toFun := fun i => i 0
        invFun := fun b => ix3 b (0 : Fin 1) (0 : Fin 1)
        left_inv := fun i => by
          funext a
          match a with
          | ⟨0, _⟩ => rfl
          | ⟨1, _⟩ => exact Subsingleton.elim (α := Fin 1) _ _
          | ⟨2, _⟩ => exact Subsingleton.elim (α := Fin 1) _ _
        right_inv := fun _ => rfl }
    exact (Equiv.sum_comp e.symm v).symm.trans (Finset.sum_congr rfl fun b _ => h b)
  show Ideal.div (Host.reduceAdd v (constant S_ .f32 0x00000000#32) reducesTo_S8x1x1_S_d0_1_2 h_S_ i) _ = _
  rw [hs]
  rfl

/-- The mean of the losses of eight rows of reals. -/
theorem mean_losses (m : (ℓ : Loc nD τ sig) → Buf (Elt Ideal) ℓ) (c : Dev nD) (X T : Fin 8 → ℕ → ℝ)
    (hX : ∀ b n, m ((c.tc : Thread nD τ).loc main_arg0) (at4 b n) = (X b n : EReal)) (hT : ∀ b n, m ((c.tc : Thread nD τ).loc main_arg1) (at4 b n) = (T b n : EReal)) (i : S_.Idx) :
    meanOf (F := Ideal) (losses m c) i = Ideal.div (0 + ∑ b : Fin 8, (lossR (X b) (T b) : EReal)) (Ideal.ofBits .f32 0x41000000#32) :=
  mean_apply (losses m c) _ (fun b => rowLoss_eq m c b (X b) (T b) (hX b) (hT b)) i

end Cert.KernelIdeal.Value

end
-- ==== Proof.TopK.lean ====
/-
  The reference's selection keeps every row: the 8 greatest of 8 losses are the 8 losses in some order, so reading the
  losses at the selected positions and summing is summing the losses.
-/
module

public import proofs.«01_k».proof.Defs
public import proofs.«01_k».proof.Proof.Gen.ReferenceIdeal.Read
public import Idealize.ShloMosaic.Lib.SortFacts
public import Idealize.ShloMosaic.Lib.StableHlo.Predicate
public import Idealize.ShloMosaic.Lib.ValueIdxRank1

@[expose] public section

noncomputable section

open Idealize.ShloMosaic Idealize.ShloMosaic.TcCoe Idealize.SL.Sem

namespace Cert.ReferenceIdeal.Loss

open Cert.ReferenceIdeal Cert.ReferenceIdeal.Gen Cert.ReferenceIdeal.Read

/-- A sort of two lists of 8 by the first reads the second list at the sorting permutation. -/
theorem sort2_second {α β : Type} (gt : α → α → BitVec 1) (x : S8.Idx → α) (y : S8.Idx → β) (p : Fin 8) :
    (Host.sort2 S8 0 (fun l r => gt l.1 r.1) x y).2 (Shape.Idx.ofFin p)
      = y (Shape.Idx.ofFin (sortedFrom (fun k k' => gt (x (Shape.Idx.ofFin k)) (x (Shape.Idx.ofFin k')) == 1#1) p)) := by
  unfold Host.sort2
  simp

/-- The positions a top-8 of 8 numbers returns are a permutation of `0 … 7`. -/
theorem topK_positions {α : Type} (gt : α → α → BitVec 1) (x : S8.Idx → α) (h : S8.Slices (fun _ => 0) S8) :
    ∃ π : Fin 8 → Fin 8, Function.Bijective π ∧ ∀ p : Fin 8, (Host.topK S8 0 gt x h).2 (Shape.Idx.ofFin p) = BitVec.ofNat 32 (π p).val := by
  refine ⟨sortedFrom (fun k k' => gt (x (Shape.Idx.ofFin k)) (x (Shape.Idx.ofFin k')) == 1#1), ⟨sortedFrom_injective _, sortedFrom_surjective _⟩, fun p => ?_⟩
  have hq : ∀ q : S8.Idx, q = Shape.Idx.ofFin p → (Host.sort2 S8 0 (fun l r => gt l.1 r.1) x (fun i => iotaInDim S8 32 0 i)).2 q
      = BitVec.ofNat 32 (sortedFrom (fun k k' => gt (x (Shape.Idx.ofFin k)) (x (Shape.Idx.ofFin k')) == 1#1) p).val := by
    rintro q rfl
    rw [sort2_second]
    rfl
  exact hq _ (funext fun a => Fin.ext (Nat.zero_add _))

variable (x0 x1 : (⟨S8x96x224x224, .f32⟩ : BufTy).Contents (Elt Ideal))

/-- A position below 8 is not negative, so the reference's wrap of negative positions leaves it. -/
theorem wrap_position (p : Fin 8) :
    Scalar.select (IntOp.cmpi .slt (BitVec.ofNat 32 p.val) 0#32) (IntOp.addi (BitVec.ofNat 32 p.val) 8#32) (BitVec.ofNat 32 p.val) = BitVec.ofNat 32 p.val
      ∧ (BitVec.ofNat 32 p.val).toInt.toNat = p.val := by
  revert p
  decide +kernel

/-- Reading 8 numbers at positions, where result `p`'s position is `q`. -/
theorem read_position {α : Type} (x : S8.Idx → α) (idx : IVec S8x1 32) (p q : Fin 8) (h : idx (StableHlo.Predicate.ixP p) = BitVec.ofNat 32 q.val) :
    Host.gather gather_S8_S8x1_S8_n_0_n_n_0_1_1 x idx (Shape.Idx.ofFin p) = x (Shape.Idx.ofFin q) := by
  refine (StableHlo.Predicate.gather_take gather_S8_S8x1_S8_n_0_n_n_0_1_1 rfl rfl rfl rfl x idx p (by decide)).trans ?_
  refine congrArg (fun r => x (Shape.Idx.ofFin r)) (Fin.ext ?_)
  show min (idx (StableHlo.Predicate.ixP p)).toInt.toNat 7 = q.val
  rw [h, (wrap_position q).2]
  have := q.isLt
  omega

/-- The sum of the selected losses is the sum of the losses. -/
theorem sum_selected : ∑ j : S8.Idx, val_main_v12 (F := Ideal) x0 x1 j = ∑ b : Fin 8, val_main_v5 (F := Ideal) x0 x1 (Shape.Idx.ofFin b) := by
  obtain ⟨π, hπ, hp⟩ := topK_positions (α := Ideal .f32) (FloatOps.cmpfTotal (F := Ideal) (φ := .f32) .gt) (val_main_v5 (F := Ideal) x0 x1) sliceFits_S8_S8
  have e : ∀ p : Fin 8, val_main_v12 (F := Ideal) x0 x1 (Shape.Idx.ofFin p) = val_main_v5 (F := Ideal) x0 x1 (Shape.Idx.ofFin (π p)) := by
    intro p
    have hi : val_main_v11 (F := Ideal) x0 x1 (StableHlo.Predicate.ixP p) = BitVec.ofNat 32 (π p).val := by
      rw [val_main_v11_apply, val_main_v10_apply, val_main_v7_apply, val_main_v9_apply, val_main_v6_apply, val_main_v8_apply, val_main_c_apply, val_main_c_0_apply]
      have hq : val_main_indices (F := Ideal) x0 x1 (idx_main_v11 (StableHlo.Predicate.ixP p)) = BitVec.ofNat 32 (π p).val := by
        rw [← hp p]
        unfold val_main_indices
        exact congrArg _ (Shape.Idx.eq_ofFin _)
      rw [hq]
      exact (wrap_position (π p)).1
    unfold val_main_v12
    exact read_position _ _ p (π p) hi
  have s1 : ∑ j : S8.Idx, val_main_v12 (F := Ideal) x0 x1 j = ∑ p : Fin 8, val_main_v12 (F := Ideal) x0 x1 (Shape.Idx.ofFin p) := by
    rw [← Equiv.sum_comp (ValueIdx.idxEquiv1 (n := 8)).symm (val_main_v12 (F := Ideal) x0 x1)]
    refine Finset.sum_congr rfl fun p _ => congrArg (val_main_v12 (F := Ideal) x0 x1) (funext fun a => ?_)
    match a with
    | ⟨0, _⟩ => rfl
  rw [s1, Finset.sum_congr rfl fun p _ => e p]
  exact Equiv.sum_comp (Equiv.ofBijective π hπ) fun b => val_main_v5 (F := Ideal) x0 x1 (Shape.Idx.ofFin b)

end Cert.ReferenceIdeal.Loss

end
-- ==== Proof.RefLoss.lean ====
/-
  What the reference computes, for arrays of reals: row `b`'s loss is minus the sum of target times log-softmax of the
  logits, which is `(Σ T) · log (Σ exp X) − Σ T · X`, whatever real the row's maximum is; the result is the mean of the
  selected losses.
-/
module

public import proofs.«01_k».proof.Proof.TopK
public import proofs.«01_k».proof.Proof.Rows
public import proofs.«01_k».proof.Proof.Reals
public import proofs.«01_k».proof.Proof.Flat
public import Idealize.ShloMosaic.Lib.KernelVsHost

@[expose] public section

noncomputable section

open Idealize.ShloMosaic Idealize.ShloMosaic.TcCoe Idealize.SL.Sem Idealize.ShloMosaic.ValueIdx Cert.Rows

namespace Cert.ReferenceIdeal.Loss

open Cert.ReferenceIdeal Cert.ReferenceIdeal.Gen Cert.ReferenceIdeal.Read

variable (x0 x1 : (⟨S8x96x224x224, .f32⟩ : BufTy).Contents (Elt Ideal))

/-- Entry `n` of row `b` of the flattened logits. -/
theorem logits_apply (b : Fin 8) (n : Fin 4816896) : val_main_v0 (F := Ideal) x0 (ix2 b n) = x0 (at4 b n.val) := by
  rw [val_main_v0_apply]
  have hn := n.isLt
  have hb := b.isLt
  refine congrArg x0 (eq_at4 b n.val _ ?_ ?_ ?_ ?_)
  · show (b.val * 4816896 + n.val) / 4816896 = b.val; omega
  · show (b.val * 4816896 + n.val) / 50176 % 96 = n.val / 50176 % 96; omega
  · show (b.val * 4816896 + n.val) / 224 % 224 = n.val / 224 % 224; omega
  · show (b.val * 4816896 + n.val) % 224 = n.val % 224; omega

/-- Entry `n` of row `b` of the flattened targets. -/
theorem targets_apply (b : Fin 8) (n : Fin 4816896) : val_main_v1 (F := Ideal) x1 (ix2 b n) = x1 (at4 b n.val) := by
  rw [val_main_v1_apply]
  have hn := n.isLt
  have hb := b.isLt
  refine congrArg x1 (eq_at4 b n.val _ ?_ ?_ ?_ ?_)
  · show (b.val * 4816896 + n.val) / 4816896 = b.val; omega
  · show (b.val * 4816896 + n.val) / 50176 % 96 = n.val / 50176 % 96; omega
  · show (b.val * 4816896 + n.val) / 224 % 224 = n.val / 224 % 224; omega
  · show (b.val * 4816896 + n.val) % 224 = n.val % 224; omega

/-- The host's maximum, from minus infinity, along the second axis of an array of reals is a real, at any row length. -/
theorem host_max_real {k n : ℕ} (hn : 0 < n) (x : FVec Ideal ⟨2, ![k, n]⟩ .f32) {u : Shape} (h : (⟨2, ![k, n]⟩ : Shape).ReducesTo [1] ⟨1, ![k]⟩)
    (h' : (⟨2, ![k, n]⟩ : Shape).Reduces [1] ⟨1, ![k]⟩) (hu : 0 < u.numel) (b : Fin k) (hx : ∀ q : Fin n, ∃ r : ℝ, x (ix2 b q) = (r : EReal)) :
    ∃ r : ℝ, Host.reduce FloatOps.maximumf x (constant u .f32 0xFF800000#32) h hu (Shape.Idx.ofFin b) = (r : EReal) := by
  obtain ⟨r, hr⟩ := fold_max_real (⟨0, hn⟩ : Fin n) (fun q => x (ix2 b q)) hx
  refine ⟨r, ?_⟩
  rw [hostReduce_maximumf_eq_multiReduction x 0xFF800000#32 h hu h' (.inl rfl) rfl]
  refine (Ideal.multiReduction_maximumf_single x 0xFF800000#32 h' (.inl rfl) rfl (Shape.Idx.ofFin b)).trans ?_
  refine Eq.trans ?_ hr
  show Finset.fold max (Ideal.ofBits .f32 0xFF800000#32) _ _ = _
  rw [ofBits_ninf]
  refine congrArg (fun f => Finset.fold max (⊥ : EReal) f (Finset.univ : Finset (Fin n))) (funext fun q => ?_)
  refine congrArg x (funext fun a => ?_)
  match a with
  | ⟨0, _⟩ => rfl
  | ⟨1, _⟩ => rfl

/-- The maximum of a row of reals is a real. -/
theorem row_max (b : Fin 8) (X : ℕ → ℝ) (hX : ∀ n, x0 (at4 b n) = (X n : EReal)) : ∃ M : ℝ, val_main_call0_v0 (F := Ideal) x0 (Shape.Idx.ofFin b) = (M : EReal) := by
  unfold val_main_call0_v0 val_main_call0_cst
  exact host_max_real (by decide) (val_main_v0 (F := Ideal) x0) reducesTo_S8x4816896_S8_d1 (by decide) h_S_ b
    fun n => ⟨X n.val, (logits_apply x0 b n).trans (hX n.val)⟩

/-- A logit less the row's maximum. -/
theorem shifted_apply (b : Fin 8) (n : Fin 4816896) (X : ℕ → ℝ) (hX : ∀ n, x0 (at4 b n) = (X n : EReal)) (M : ℝ)
    (hM : val_main_call0_v0 (F := Ideal) x0 (Shape.Idx.ofFin b) = (M : EReal)) :
    val_main_call0_v5 (F := Ideal) x0 (ix2 b n) = ((X n.val - M : ℝ) : EReal) := by
  have hi : idx_main_call0_v3 (idx_main_call0_v4 (ix2 b n)) = Shape.Idx.ofFin b := Shape.Idx.eq_ofFin _
  rw [val_main_call0_v5_apply, val_main_call0_v4_apply, val_main_call0_v3_apply, hi, val_main_call0_v2_apply, val_main_call0_v1_apply, val_main_call0_cst_0_apply, hM, logits_apply, hX]
  show (X n.val : EReal) - max (Ideal.ofBits .f32 0xFF800000#32) (M : EReal) = _
  rw [ofBits_ninf, max_eq_right bot_le, EReal.coe_sub]

/-- The log of the row's sum of shifted exponentials. -/
theorem lse_apply (b : Fin 8) (n : Fin 4816896) (X : ℕ → ℝ) (hX : ∀ n, x0 (at4 b n) = (X n : EReal)) (M : ℝ)
    (hM : val_main_call0_v0 (F := Ideal) x0 (Shape.Idx.ofFin b) = (M : EReal)) :
    val_main_call0_v10 (F := Ideal) x0 (ix2 b n) = ((Real.log (∑ n ∈ Finset.range 4816896, Real.exp (X n)) - M : ℝ) : EReal) := by
  have hi : idx_main_call0_v8 (idx_main_call0_v10 (ix2 b n)) = Shape.Idx.ofFin b := Shape.Idx.eq_ofFin _
  have hpos : 0 < ∑ n ∈ Finset.range 4816896, Real.exp (X n) := Finset.sum_pos (fun n _ => Real.exp_pos _) ⟨0, Finset.mem_range.mpr (by decide)⟩
  have hs : val_main_call0_v7 (F := Ideal) x0 (Shape.Idx.ofFin b) = (((∑ n ∈ Finset.range 4816896, Real.exp (X n)) * Real.exp (-M) : ℝ) : EReal) := by
    rw [val_main_call0_v7_apply, val_main_call0_cst_1_apply]
    show Ideal.ofBits .f32 0x00000000#32 + _ = _
    rw [Ideal.ofBits_zero_f32, zero_add, Finset.sum_mul]
    refine coe_sum_fin 4816896 (fun n => Real.exp (X n) * Real.exp (-M)) _ fun k => ?_
    have hk : idx_main_call0_v7 (Shape.Idx.ofFin b) k = ix2 b k := eq_ix2 _
    rw [hk, val_main_call0_v6_apply, shifted_apply x0 b k X hX M hM]
    show Ideal.exp ((X k.val - M : ℝ) : EReal) = _
    rw [Ideal.exp_coe, sub_eq_add_neg, Real.exp_add]
  rw [val_main_call0_v10_apply, val_main_call0_v9_apply, val_main_call0_v8_apply, hi, hs]
  rw [Ideal.hostUnary_log_def, Ideal.log_coe, if_neg (not_le.mpr (mul_pos hpos (Real.exp_pos _))), Real.log_mul hpos.ne' (Real.exp_pos _).ne', Real.log_exp, sub_eq_add_neg]

/-- Row `b`'s loss. -/
theorem loss_apply (b : Fin 8) (X T : ℕ → ℝ) (hX : ∀ n, x0 (at4 b n) = (X n : EReal)) (hT : ∀ n, x1 (at4 b n) = (T n : EReal)) :
    val_main_v5 (F := Ideal) x0 x1 (Shape.Idx.ofFin b) = (lossR X T : EReal) := by
  obtain ⟨M, hM⟩ := row_max x0 b X hX
  have hs : val_main_v4 (F := Ideal) x0 x1 (Shape.Idx.ofFin b)
      = ((∑ n ∈ Finset.range 4816896, T n * (X n - M - (Real.log (∑ n ∈ Finset.range 4816896, Real.exp (X n)) - M)) : ℝ) : EReal) := by
    rw [val_main_v4_apply, val_main_cst_apply]
    show Ideal.ofBits .f32 0x00000000#32 + _ = _
    rw [Ideal.ofBits_zero_f32, zero_add]
    refine coe_sum_fin 4816896 (fun n => T n * (X n - M - (Real.log (∑ n ∈ Finset.range 4816896, Real.exp (X n)) - M))) _ fun k => ?_
    have hk : idx_main_v4 (Shape.Idx.ofFin b) k = ix2 b k := eq_ix2 _
    rw [hk, val_main_v3_apply, val_main_v2_apply, targets_apply, hT, shifted_apply x0 b k X hX M hM, lse_apply x0 b k X hX M hM]
    show (T k.val : EReal) * (_ - _) = _
    rw [← EReal.coe_sub, ← EReal.coe_mul]
  rw [val_main_v5_apply, hs]
  show -(_ : EReal) = _
  rw [← EReal.coe_neg]
  refine congrArg (fun r : ℝ => (r : EReal)) ?_
  unfold lossR
  generalize Real.log (∑ n ∈ Finset.range 4816896, Real.exp (X n)) = L
  rw [Finset.sum_mul, ← Finset.sum_sub_distrib, ← Finset.sum_neg_distrib]
  exact Finset.sum_congr rfl fun n _ => by ring

/-- The reference's result: the losses' sum over the count. -/
theorem mean_apply (X T : Fin 8 → ℕ → ℝ) (hX : ∀ b n, x0 (at4 b n) = (X b n : EReal)) (hT : ∀ b n, x1 (at4 b n) = (T b n : EReal)) (i : S_.Idx) :
    val_main_v14 (F := Ideal) x0 x1 i = Ideal.div (0 + ∑ b : Fin 8, (lossR (X b) (T b) : EReal)) (Ideal.ofBits .f32 0x41000000#32) := by
  rw [val_main_v14_apply, val_main_v13_apply, sum_selected, val_main_cst_1_apply, val_main_cst_2_apply, Finset.sum_congr rfl fun b _ => loss_apply x0 x1 b (X b) (T b) (hX b) (hT b)]
  show Ideal.div (Ideal.ofBits .f32 0x00000000#32 + _) _ = _
  rw [Ideal.ofBits_zero_f32]
  rfl

end Cert.ReferenceIdeal.Loss

end
-- ==== Proof.lean ====
/-
  The certificate: the kernel, its idealization and the reference run and leave their arguments as they were, and over
  the extended reals the kernel's result is the reference's on every pair of arrays of finite numbers.
-/
module

public import proofs.«01_k».proof.Defs
public import proofs.«01_k».proof.Proof.Gen.ReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Finite
public import proofs.«01_k».proof.Proof.Result
public import proofs.«01_k».proof.Proof.RefLoss
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and ends with every counter at zero. -/
theorem reference_frame : quiescent_ReferenceIdeal (hReferenceIdeal := Cert.ReferenceIdeal.Gen.facts) := by
  intro m g _
  hlo_run
  · exact fun _ => ⟨trivial, trivial⟩
  · exact sem_eq_zero_of_no_sems (sig := Cert.ReferenceIdeal.sig) (by decide) _

/-- From memories holding the same finite arguments, the kernel's result is the reference's. -/
theorem same_result : algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  refine ⟨fun c => Cert.KernelIdeal.Value.meanOf (F := Ideal) (Cert.KernelIdeal.Value.losses m c), Cert.KernelIdeal.Value.run_mean (F := Ideal) m g, ?_⟩
  refine (θ_run _ _ _).mono (fun r h c => ⟨(h c).1.trans ?_, (h c).2⟩) (Cert.ReferenceIdeal.Value.run m' g')
  obtain ⟨hx, ht⟩ := Cert.Finite.reals _ _ (hpre c)
  rw [Cert.ReferenceIdeal.Read.val_main_v14_eq, (hagree c).1, (hagree c).2]
  funext i
  rw [Cert.ReferenceIdeal.Loss.mean_apply _ _ _ _ (fun b n => hx (Cert.Rows.at4 b n)) (fun b n => ht (Cert.Rows.at4 b n)) i]
  exact (Cert.KernelIdeal.Value.mean_losses m c _ _ (fun b n => hx (Cert.Rows.at4 b n)) (fun b n => ht (Cert.Rows.at4 b n)) i).symm

/-- All the claims together, each from its own theorem. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g, fun m g _ => Cert.KernelIdeal.Gen.frame m g,
    reference_frame, fun m g _ => reference_frame m g trivial, trivial, same_result⟩

end Cert.Proof

end
